-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S4x128x512 : Shape := ⟨3, ![4, 128, 512]⟩
abbrev S2x2x512 : Shape := ⟨3, ![2, 2, 512]⟩
abbrev S8 : Shape := ⟨1, ![8]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S1x2x512 : Shape := ⟨3, ![1, 2, 512]⟩

abbrev nBuf : Space → Nat
  | .hbm => 4
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S4x128x512, .f32⟩
  | .local _ .vmem, ⟨1, _⟩ => ⟨S4x128x512, .f32⟩
  | .local _ .vmem, ⟨2, _⟩ => ⟨S2x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_152 : BitVec 32 := 4#32
  let v239 : BitVec 32 := Scalar.muli v2 c4_i32_152
  let v240 : BitVec 32 := Scalar.addi c0_i32_153 v239
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_154 : BitVec 32 := 2#32
  let v241 : BitVec 32 := Scalar.muli v9 c2_i32_154
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v243 : BitVec 32 := Scalar.muli v8 c1_i32_155
  let v244 : BitVec 32 := Scalar.addi v242 v243
  v244.toNat
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
  The protocol of the two devices that share a row of the kernel's mesh.

  Every device has one PEER, the device whose number differs from its own in the second bit; peering is symmetric.
  The semaphores, who signals or copies onto each, who waits and what the landing hands over:

  * eight load semaphores, one per copy of a 128-row slab of the two arguments into the scratch slabs, and one store
    semaphore for the copy of the result out: own copies, own waits, nothing shared;
  * the barrier cell of device c: its peer signals it once, by one unit, at the start. With that unit the peer hands over
    the lower half (slot 1) of its own exchange buffer, at whatever it holds: the place c's partial result will land;
  * the send cell of c: credited by c's own remote copy with the bytes of one slot; c gets back its slot 0, which still
    holds c's partial result;
  * the receive cell of c: credited by the peer's remote copy with the same number of bytes; c gets its own slot 1, now
    holding the PEER's partial result.

  Each of these three cells lives one round, with one duty. Every device waits on its barrier cell while it still owes
  the peer's receive cell, so barrier cells lie below receive cells; all other cells lie below both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Exec.Rounds
public import Idealize.ShloMosaic.Lib.Tactic
public import Idealize.ShloMosaic.Lib.ValueIdx

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The ghost state: the pipeline's rounds, the exchange's rounds, and the counters of the local copies -/

/-- The exchange's rounds: one duty to a round, so a duty is named by a truth value. -/
abbrev UE : Type := URounds (GSem nD τ sig) Bool
/-- All of the ghost state. -/
abbrev UU : Type := UR sig nD τ × (UE × Counters)

local notation "𝕄" => MT nD τ sig Unit (Elt F) ℕ UU ℕ

/-- The pipeline's rounds inside the whole ghost state. -/
abbrev EP : Emb (UR sig nD τ) (MT nD τ sig Unit (Elt F) ℕ UU ℕ) := embL

/-- The exchange's rounds inside the whole ghost state. -/
def EX : Emb UE (MT nD τ sig Unit (Elt F) ℕ UU ℕ) :=
  ((Emb.inl : Emb UE (UE × Counters)).trans (Emb.inr : Emb (UE × Counters) UU)).trans
    (uEmb (nD := nD) (sig := sig) (Ix := Unit) (Val := Elt F) (Name := ℕ) (U := UU) (Lvl := ℕ)).toEmb

/-- The exchange's rounds lie in the part of the state that invariants may hold. -/
instance EX_landsIn : (EX : Emb UE 𝕄).LandsIn (upEmb : UEmb _ 𝕄) := by unfold EX; infer_instance

/-! ## The peer -/

/-- The device that `c` exchanges with. -/
def peer (c : Dev nD) : Dev nD := ⟨k0_dev1 c, k0_dev1_lt c⟩

/-- Peering is symmetric, -/
theorem peer_peer (c : Dev nD) : peer (peer c) = c := by
  revert c; decide

/-- so different devices have different peers, -/
theorem peer_inj : Function.Injective peer := fun a b h => by
  rw [← peer_peer a, h, peer_peer]

/-- and peering permutes the devices. -/
def peerEquiv : Dev nD ≃ Dev nD := ⟨peer, peer, peer_peer, peer_peer⟩

/-- The device the remote copy goes to is the one the barrier signal goes to. -/
theorem dev2_eq (c : Dev nD) : (⟨k0_dev2 c, k0_dev2_lt c⟩ : Dev nD) = peer c := by
  revert c; decide

/-! ## The pieces of the buffers the copies move -/

/-- The 128 rows from row `n` on of the first argument, of the second. -/
abbrev xRows (n : ℕ) (h : ∀ a, (![n, 0] : Fin 2 → ℕ) a + S128x512.size a ≤ S512x512.size a) : Memref sig .tc .hbm S128x512 .f32 :=
  (Memref.whole main_arg0).slice (Rect.unit (s := S512x512) ![n, 0] S128x512.size h) (fun _ => rfl)
/-- The same rows of the second. -/
abbrev dyRows (n : ℕ) (h : ∀ a, (![n, 0] : Fin 2 → ℕ) a + S128x512.size a ≤ S512x512.size a) : Memref sig .tc .hbm S128x512 .f32 :=
  (Memref.whole main_arg1).slice (Rect.unit (s := S512x512) ![n, 0] S128x512.size h) (fun _ => rfl)
/-- Slab `k` of the first scratch buffer, of the second. -/
abbrev xSlab (k : ℕ) (h : ∀ a, (![k, 0, 0] : Fin 3 → ℕ) a + S1x128x512.size a ≤ S4x128x512.size a) : Memref sig .tc .vmem S128x512 .f32 :=
  ((Memref.whole cc0_scratch0).slice (Rect.unit (s := S4x128x512) ![k, 0, 0] S1x128x512.size h) (fun _ => rfl)).squeeze S128x512 squeezes_S1x128x512_S128x512
/-- The same slab of the second. -/
abbrev dySlab (k : ℕ) (h : ∀ a, (![k, 0, 0] : Fin 3 → ℕ) a + S1x128x512.size a ≤ S4x128x512.size a) : Memref sig .tc .vmem S128x512 .f32 :=
  ((Memref.whole cc0_scratch1).slice (Rect.unit (s := S4x128x512) ![k, 0, 0] S1x128x512.size h) (fun _ => rfl)).squeeze S128x512 squeezes_S1x128x512_S128x512
/-- Slot `k` of the exchange buffer. -/
abbrev slot (k : ℕ) (h : ∀ a, (![k, 0, 0] : Fin 3 → ℕ) a + S1x2x512.size a ≤ S2x2x512.size a) : Memref sig .tc .vmem S2x512 .f32 :=
  ((Memref.whole cc0_scratch2).slice (Rect.unit (s := S2x2x512) ![k, 0, 0] S1x2x512.size h) (fun _ => rfl)).squeeze S2x512 squeezes_S1x2x512_S2x512
/-- The lower one, for the device's own sums, -/
abbrev slot0 : Memref sig .tc .vmem S2x512 .f32 := slot 0 inb_S2x2x512_S1x2x512_0_0_0
/-- and the upper one, for those it is sent. -/
abbrev slot1 : Memref sig .tc .vmem S2x512 .f32 := slot 1 inb_S2x2x512_S1x2x512_1_0_0

/-- An index lies in a box of a whole buffer, read as a view or as a rectangle. -/
theorem mem_box (b : Ref sig .tc) (r : Rect b.ty.shape) (i : ((View.whole b).slice r).ty.Idx) :
    i ∈ ((View.whole b).slice r).set ↔ (i : b.ty.shape.Idx) ∈ r.set := by
  rw [View.set_slice_whole]

/-- A slot's elements are those of the exchange buffer with its leading coordinate; -/
theorem mem_slot {k : ℕ} {h} (i : S2x2x512.Idx) : i ∈ (slot k h).view.set ↔ (i 0 : ℕ) = k := by
  rw [Memref.set_view_squeeze]
  refine (mem_box cc0_scratch2 (Rect.unit (s := S2x2x512) ![k, 0, 0] S1x2x512.size h) i).trans (Rect.mem_set_unit.trans ?_)
  constructor
  · intro H
    have := H 0
    simp at this
    omega
  · intro H a
    fin_cases a
    · simp [H]
    · exact ⟨Nat.zero_le _, (i 1).2.trans_eq (Nat.zero_add _).symm⟩
    · exact ⟨Nat.zero_le _, (i 2).2.trans_eq (Nat.zero_add _).symm⟩

/-- the same of a scratch slab, -/
theorem mem_xSlab {k : ℕ} {h} (i : S4x128x512.Idx) : i ∈ (xSlab k h).view.set ↔ (i 0 : ℕ) = k := by
  rw [Memref.set_view_squeeze]
  refine (mem_box cc0_scratch0 (Rect.unit (s := S4x128x512) ![k, 0, 0] S1x128x512.size h) i).trans (Rect.mem_set_unit.trans ?_)
  constructor
  · intro H
    have := H 0
    simp at this
    omega
  · intro H a
    fin_cases a
    · simp [H]
    · exact ⟨Nat.zero_le _, (i 1).2.trans_eq (Nat.zero_add _).symm⟩
    · exact ⟨Nat.zero_le _, (i 2).2.trans_eq (Nat.zero_add _).symm⟩
/-- of either buffer; -/
theorem mem_dySlab {k : ℕ} {h} (i : S4x128x512.Idx) : i ∈ (dySlab k h).view.set ↔ (i 0 : ℕ) = k :=
  mem_xSlab (h := h) i

/-- and 128 rows of an argument are the elements whose row is among them. -/
theorem mem_xRows {n : ℕ} {h} (i : S512x512.Idx) : i ∈ (xRows n h).view.set ↔ n ≤ (i 0 : ℕ) ∧ (i 0 : ℕ) < n + 128 := by
  refine (mem_box main_arg0 (Rect.unit (s := S512x512) ![n, 0] S128x512.size h) i).trans (Rect.mem_set_unit.trans ?_)
  constructor
  · intro H
    exact H 0
  · intro H a
    fin_cases a
    · exact H
    · exact ⟨Nat.zero_le _, (i 1).2.trans_eq (Nat.zero_add _).symm⟩
/-- This holds of either argument. -/
theorem mem_dyRows {n : ℕ} {h} (i : S512x512.Idx) : i ∈ (dyRows n h).view.set ↔ n ≤ (i 0 : ℕ) ∧ (i 0 : ℕ) < n + 128 :=
  mem_xRows (h := h) i

/-! ## What is computed, and the contents the pieces hold -/

/-- Rows `n .. n + 127` of a matrix, as the one-slab array the kernel loads. -/
def slab (f : FVec F S512x512 .f32) (n : ℕ) (h : n + 128 ≤ 512) : Vec F S1x128x512 .f32 :=
  fun j => f (ix2 ⟨n + (j 1 : ℕ), lt_of_lt_of_le (Nat.add_lt_add_left (j 1).2 n) h⟩ (j 2))

/-- The two rows of sums a device forms of its own halves `x`, `dy` of the arguments, four slabs one after another. -/
def partialSums (x dy : FVec F S512x512 .f32) : FVec F S2x512 .f32 :=
  k0_pay18
    (k0_pay16
      (k0_pay13
        (k0_pay8 k0_pay2 (k0_pay4 (slab x 0 (by decide))) (k0_pay5 (slab dy 0 (by decide))) (k0_pay6 (slab x 0 (by decide)))
          (k0_pay7 (slab x 0 (by decide))) (Scalar.ofBits .f32 0x44000000#32))
        (k0_pay10 (slab x 128 (by decide))) (k0_pay11 (slab dy 128 (by decide))) (k0_pay12 (slab x 128 (by decide)))
        (Scalar.ofBits .f32 0x44000000#32))
      (slab x 256 (by decide)) (slab dy 256 (by decide)))
    (k0_pay17 (k0_pay14 (k0_pay9 k0_pay3 (k0_pay5 (slab dy 0 (by decide)))) (k0_pay11 (slab dy 128 (by decide)))) (slab dy 256 (by decide)))
    (slab x 384 (by decide)) (slab dy 384 (by decide))

/-- The exchange buffer with the same two rows in both slots. -/
def both (w : Vec F S1x2x512 .f32) : Vec F S2x2x512 .f32 := fun i => w (ix3 0 (i 1) (i 2))

/-! ## The shared cells -/

variable (m : (ℓ : Loc nD τ sig) → Buf (Elt F) ℓ)

/-- The barrier semaphore both kernels of the pair use, and the two the remote copies credit. -/
abbrev barSem : Sem sig := (SemArray.scalar (sig.barrier 0 rfl) : Sems sig S_).sem
/-- The semaphore a device's own remote copy credits at home, -/
abbrev sendSem : DmaSem sig := (cc0_scratch5 : DmaSems sig S_).sem
/-- and the one its peer's copy credits. -/
abbrev recvSem : DmaSem sig := (cc0_scratch6 : DmaSems sig S_).sem

/-- The three shared semaphores: barrier, send, receive. -/
abbrev shared : Fin 3 → SemLoc sig := fun | 0 => .reg barSem | 1 => .dma sendSem | 2 => .dma recvSem
/-- The cell of device `c` at the `k`-th of them. -/
abbrev cell (c : Dev nD) (k : Fin 3) : GSem nD τ sig := ((c : Thread nD τ), shared k)

/-- They are three different ones. -/
theorem shared_inj : Function.Injective shared := by
  intro a b h
  revert h
  fin_cases a <;> fin_cases b <;> first | (intro _; rfl) | (intro h; exact absurd h (by decide))

/-- The bytes one slot's copy credits. -/
abbrev bytes : ℕ := slot1.view.dmaCredit
/-- A slot has bytes to copy. -/
theorem bytes_pos : 0 < bytes := View.dmaCredit_pos _ (by decide)

/-- The partial sums of device `c`, as the exchange carries them. -/
def mine (c : Dev nD) : Vec F S1x2x512 .f32 :=
  k0_pay19 (partialSums (m ((c : Thread nD τ).loc main_arg0)) (m ((c : Thread nD τ).loc main_arg1)))

/-- Device `c` holds slot `k` of its exchange buffer at contents `f`. -/
def slotAt0 (c : Dev nD) (f : Buf (Elt F) (slot0.view.loc (c : Thread nD τ))) : sProp 𝕄 :=
  slot0.view.loc (c : Thread nD τ) ↦[slot0.view.set]{fullShare} f
/-- The same of the other slot. -/
def slotAt1 (c : Dev nD) (f : Buf (Elt F) (slot1.view.loc (c : Thread nD τ))) : sProp 𝕄 :=
  slot1.view.loc (c : Thread nD τ) ↦[slot1.view.set]{fullShare} f

omit [FloatOps F] in
/-- Both assertions may stand in an invariant; -/
instance slotAt0_storable (c : Dev nD) (f) : BI.Storable (upEmb : UEmb _ 𝕄) (slotAt0 (F := F) c f) := by unfold slotAt0; infer_instance
omit [FloatOps F] in
/-- likewise. -/
instance slotAt1_storable (c : Dev nD) (f) : BI.Storable (upEmb : UEmb _ 𝕄) (slotAt1 (F := F) c f) := by unfold slotAt1; infer_instance

/-- What the one landing on device `c`'s `k`-th shared cell hands over: on the barrier cell the peer's slot 1, free to
    be written, and that the peer stands at the start of its receive cell; on the send cell `c`'s slot 0 back; on the
    receive cell `c`'s slot 1 with the peer's partial sums in it. -/
def handed (c : Dev nD) : Fin 3 → sProp 𝕄
  | 0 => iprop((∃ f, slotAt1 (peer c) f) ∗ reached EX (cell (peer c) 2) 0)
  | 1 => slotAt0 c (both (mine m c))
  | 2 => slotAt1 c (both (mine m (peer c)))

/-- What is handed over may stand in an invariant. -/
instance handed_storable (c : Dev nD) (k : Fin 3) : BI.Storable (upEmb : UEmb _ 𝕄) (handed (F := F) m c k) := by
  fin_cases k <;> dsimp only [handed] <;> infer_instance

/-- The units the landing on the `k`-th shared cell adds. -/
def units : Fin 3 → ℕ | 0 => 1 | 1 => bytes | 2 => bytes

/-- Every landing adds something. -/
theorem units_pos (k : Fin 3) : 0 < units k := by
  fin_cases k
  · exact Nat.one_pos
  · exact bytes_pos
  · exact bytes_pos

/-- Which shared semaphore a location is; the receive one for any other. -/
def kindOf (s : SemLoc sig) : Fin 3 := if s = shared 0 then 0 else if s = shared 1 then 1 else 2

/-- Of a shared semaphore it is the index. -/
theorem kindOf_shared (k : Fin 3) : kindOf (shared k) = k := by
  unfold kindOf
  by_cases h0 : shared k = shared 0
  · rw [if_pos h0]; exact (shared_inj h0).symm
  · rw [if_neg h0]
    by_cases h1 : shared k = shared 1
    · rw [if_pos h1]; exact (shared_inj h1).symm
    · rw [if_neg h1]
      have h0' : k ≠ 0 := fun h => h0 (by rw [h])
      have h1' : k ≠ 1 := fun h => h1 (by rw [h])
      omega

/-- One round, one duty on each shared cell of each device's core; nothing elsewhere, nothing later. -/
def sched : Rounds.Schedule (GSem nD τ sig) Bool 𝕄 where
  duties g r := if r = 0 ∧ g.1.2 = .tc ∧ g.2 = shared (kindOf g.2) then {false} else ∅
  unitless _ := False
  amount g _ _ := units (kindOf g.2)
  payload g _ _ := handed m g.1.1 (kindOf g.2)
  amount_pos g _ _ _ := units_pos _

/-- The schedule's payloads may stand in invariants. -/
instance sched_storable (g : GSem nD τ sig) (r : ℕ) (d : Bool) :
    BI.Storable (upEmb : UEmb _ 𝕄) ((sched (F := F) m).payload g r d) := handed_storable m _ _

section Tables
variable (c : Dev nD) (k : Fin 3)

/-- A shared cell's first round has its one duty, -/
theorem duties_cell : (sched (F := F) m).duties (cell c k) 0 = {false} := by
  dsimp only [sched]; rw [kindOf_shared]; exact if_pos ⟨rfl, rfl, rfl⟩
/-- no later round has any, -/
theorem duties_later (g : GSem nD τ sig) : ∀ r, 1 ≤ r → (sched (F := F) m).duties g r = ∅ := fun r hr => by
  dsimp only [sched]; exact if_neg fun h => by omega
/-- the duty being the one a payer names; -/
theorem duty_mem : false ∈ (sched (F := F) m).duties (cell c k) 0 := by rw [duties_cell]; exact Finset.mem_singleton_self _
/-- it adds that cell's units, -/
theorem amount_cell (d : Bool) : (sched (F := F) m).amount (cell c k) 0 d = units k := by
  dsimp only [sched]; rw [kindOf_shared]
/-- hands over that cell's payload, -/
theorem payload_cell (d : Bool) : (sched (F := F) m).payload (cell c k) 0 d = handed m c k := by
  dsimp only [sched]; rw [kindOf_shared]
/-- and is all the cell waits for. -/
theorem expect_cell : (sched (F := F) m).expect (cell c k) 0 = units k := by
  unfold Schedule.expect Schedule.amountOf; rw [duties_cell, Finset.sum_singleton, amount_cell]
/-- Whoever waits for the whole round of a shared cell is handed its one payload. -/
theorem round_cell : bigSep ((sched (F := F) m).duties (cell c k) 0) (fun d => (sched (F := F) m).payload (cell c k) 0 d) = handed m c k := by
  rw [duties_cell, bigSep_singleton, payload_cell]

end Tables

/-- No loop of the kernel takes a variant. -/
abbrev 𝒱₀ : Variants := Variants.none

/-! ## What each device owes, and the order of the cells -/

/-- After its signal a device owes its peer the bytes of its partial sums; before it, the signal too. -/
def debt (c : Dev nD) : CellTallies nD τ sig Unit := tallyAt (cell (peer c) 2) () bytes
/-- What it owes before it has signalled its peer. -/
def debt₀ (c : Dev nD) : CellTallies nD τ sig Unit := debt c + tallyAt (cell (peer c) 0) () 1

/-- The waits are ordered on the cores' cells: barrier cells at 1, receive cells at 2, all others at 0. -/
def L (g : GSem nD τ sig) : Finset Unit := if g.1.2 = .tc then {()} else ∅
/-- The level of a cell: the barrier's below the receive cells', all others below both. -/
def lv (g : GSem nD τ sig) (_ : Unit) : ℕ := if g.2 = shared 0 then 1 else if g.2 = shared 2 then 2 else 0

/-- Every semaphore of a core has one kind of unit, -/
theorem L_core (c : Dev nD) (sm : SemLoc sig) : L ((c : Thread nD τ), sm) = {()} := if_pos rfl
/-- no other place has any. -/
theorem L_other (g : GSem nD τ sig) (h : g.1.2 ≠ .tc) : L g = ∅ := if_neg h

/-- What is owed after the signal is owed to the peer's receive cell only; -/
theorem debt_pos {c : Dev nD} {g : GSem nD τ sig} {u : Unit} (h : 0 < debt c g u) : g = cell (peer c) 2 := by
  unfold debt at h
  rw [tallyAt_apply] at h
  by_contra hn
  rw [if_neg (fun h' => hn h'.1)] at h
  exact Nat.lt_irrefl 0 h

/-- before it, to that or to the peer's barrier cell. -/
theorem debt₀_pos {c : Dev nD} {g : GSem nD τ sig} {u : Unit} (h : 0 < debt₀ c g u) :
    g = cell (peer c) 2 ∨ g = cell (peer c) 0 := by
  unfold debt₀ at h
  rw [Pi.add_apply, Finsupp.add_apply] at h
  rcases Nat.eq_zero_or_pos (debt c g u) with h0 | h0
  · rw [h0, Nat.zero_add, tallyAt_apply] at h
    by_contra hn
    rw [if_neg (fun h' => hn (.inr h'.1))] at h
    exact Nat.lt_irrefl 0 h
  · exact .inl (debt_pos h0)

/-- A receive cell's level. -/
theorem lv_recv (c : Dev nD) (u : Unit) : lv (cell c 2) u = 2 := by
  have h : (shared 2 : SemLoc sig) ≠ shared 0 := fun h => absurd (shared_inj h) (by decide)
  exact (if_neg h).trans (if_pos rfl)

omit [FloatOps F] in
/-- A device that owes its peer's receive cell only may wait on any cell of its own below the receive cells. -/
theorem mayWait_debt (c : Dev nD) (s : SemLoc sig) (hs : s ≠ shared 2) :
    (levAts L lv : sProp 𝕄) ⊢ MayWait (c : Thread nD τ) s () (debt c) :=
  MayOwe.of_cut (L := L) (lev := lv) 1 (fun p hp => by rw [Finset.mem_singleton.mp hp, L_core]; exact Finset.mem_singleton_self _)
    (fun g u hg => by rw [debt_pos hg, L_core]; exact Finset.mem_singleton_self _)
    (fun p hp => by
      rw [Finset.mem_singleton.mp hp]
      dsimp only [lv]
      rw [if_neg hs]
      split
      · exact le_rfl
      · exact Nat.zero_le _)
    (fun g u hg => by rw [debt_pos hg, lv_recv]; decide)

end Cert.KernelIdeal.Exchange
-- ==== Proof.Contents.lean ====
/-
  What the pieces hold: the equations between the contents a copy, a load or a store leaves behind and the plain arrays
  the protocol speaks about. No separation logic here.
-/
module

public import proofs.«01_k».proof.Proof.Protocol
public import Idealize.ShloMosaic.Lib.ValueLayout
public import Idealize.ShloMosaic.Lib.VecWindow

@[expose] public section

noncomputable section

namespace Cert.KernelIdeal.Exchange

open Cert.KernelIdeal Cert.KernelIdeal.Gen

open Idealize.ShloMosaic
open Idealize.ShloMosaic.TcCoe
open Idealize.ShloMosaic.ValueIdx (ix2 ix3 eq_ix2 eq_ix3)

variable {F : FTy → Type}

/-- One leading slice of a rank-3 buffer, its unit axis dropped, sits where the box of that slice sits. -/
theorem squeeze_emb {n a b k : ℕ} {sp : Space} (M : Memref sig .tc sp ⟨3, ![n, a, b]⟩ .f32)
    (h : ∀ d, (![k, 0, 0] : Fin 3 → ℕ) d + (![1, a, b] : Fin 3 → ℕ) d ≤ (![n, a, b] : Fin 3 → ℕ) d)
    (hs : (⟨3, ![1, a, b]⟩ : Shape).Squeezes ⟨2, ![a, b]⟩) (j : (⟨3, ![1, a, b]⟩ : Shape).Idx) :
    ((M.slice (Rect.unit (s := ⟨3, ![n, a, b]⟩) ![k, 0, 0] ![1, a, b] h) (fun _ => rfl)).squeeze ⟨2, ![a, b]⟩ hs).view.emb (ix2 (j 1) (j 2))
      = M.view.emb ((Rect.unit (s := ⟨3, ![n, a, b]⟩) ![k, 0, 0] ![1, a, b] h).emb j) := by
  show M.view.emb ((Rect.unit (s := ⟨3, ![n, a, b]⟩) ![k, 0, 0] ![1, a, b] h).emb (Shape.reshapeEquiv hs.numel_eq (ix2 (j 1) (j 2)))) = _
  congr 2
  refine (ValueIdx.reshapeEquiv_ix2_1ab _ _ _).trans ?_
  rw [eq_ix3 j]
  congr 1
  exact Subsingleton.elim (α := Fin 1) _ _

/-- A view written all over reads as what was written. -/
theorem read_filled {sp : Space} {s : Shape} (v : View sig .tc sp s .f32) (g : v.ty.Contents (Elt F)) (w : FVec F s .f32) :
    v.read (Elt F) (v.writes (Elt F) g [⟨Rect.whole s, w⟩]) = w :=
  View.read_writes_full v g (off := fun _ => 0) (fun a => (Nat.zero_add _).le) w []

/-- So a load of the box reads what the squeezed slice reads, -/
theorem readAt_squeeze {n a b k : ℕ} {sp : Space} (M : Memref sig .tc sp ⟨3, ![n, a, b]⟩ .f32)
    (h : ∀ d, (![k, 0, 0] : Fin 3 → ℕ) d + (![1, a, b] : Fin 3 → ℕ) d ≤ (![n, a, b] : Fin 3 → ℕ) d)
    (hs : (⟨3, ![1, a, b]⟩ : Shape).Squeezes ⟨2, ![a, b]⟩) (f : M.view.ty.Contents (Elt F)) :
    M.view.readAt (Elt F) (Rect.unit (s := ⟨3, ![n, a, b]⟩) ![k, 0, 0] ![1, a, b] h).toLoadRect f
      = fun j => ((M.slice (Rect.unit (s := ⟨3, ![n, a, b]⟩) ![k, 0, 0] ![1, a, b] h) (fun _ => rfl)).squeeze ⟨2, ![a, b]⟩ hs).view.read
          (Elt F) f (ix2 (j 1) (j 2)) := by
  funext j
  rw [View.read_apply, squeeze_emb M h hs j]
  rfl

/-- and a slice just filled by a copy of `w` loads as `w`. -/
theorem load_filled {n a b k : ℕ} {sp : Space} (M : Memref sig .tc sp ⟨3, ![n, a, b]⟩ .f32)
    (h : ∀ d, (![k, 0, 0] : Fin 3 → ℕ) d + (![1, a, b] : Fin 3 → ℕ) d ≤ (![n, a, b] : Fin 3 → ℕ) d)
    (hs : (⟨3, ![1, a, b]⟩ : Shape).Squeezes ⟨2, ![a, b]⟩) (g : M.view.ty.Contents (Elt F)) (w : FVec F ⟨2, ![a, b]⟩ .f32) :
    M.view.readAt (Elt F) (Rect.unit (s := ⟨3, ![n, a, b]⟩) ![k, 0, 0] ![1, a, b] h).toLoadRect
        (((M.slice (Rect.unit (s := ⟨3, ![n, a, b]⟩) ![k, 0, 0] ![1, a, b] h) (fun _ => rfl)).squeeze ⟨2, ![a, b]⟩ hs).view.writes
          (Elt F) g [⟨Rect.whole ⟨2, ![a, b]⟩, w⟩])
      = fun j => w (ix2 (j 1) (j 2)) := by
  rw [readAt_squeeze M h hs]
  funext j
  exact congrFun (read_filled ((M.slice (Rect.unit (s := ⟨3, ![n, a, b]⟩) ![k, 0, 0] ![1, a, b] h) (fun _ => rfl)).squeeze ⟨2, ![a, b]⟩ hs).view g w) _

/-- A copy reads the rows of an argument it names. -/
theorem read_rows (M : Memref sig .tc .hbm S512x512 .f32) (n : ℕ) (h : ∀ a, (![n, 0] : Fin 2 → ℕ) a + S128x512.size a ≤ S512x512.size a)
    (hn : n + 128 ≤ 512) (f : M.view.ty.Contents (Elt F)) (j : S1x128x512.Idx) :
    (M.slice (Rect.unit (s := S512x512) ![n, 0] S128x512.size h) (fun _ => rfl)).view.read (Elt F) f (ix2 (j 1) (j 2))
      = slab (M.view.read (Elt F) f) n hn j := by
  rw [View.read_apply]
  unfold slab
  rw [View.read_apply]
  congr 2
  refine congrArg M.view.emb ?_
  funext d
  refine Fin.ext ?_
  fin_cases d
  · show n + 1 * (j 1 : ℕ) = n + (j 1 : ℕ)
    omega
  · show 0 + 1 * (j 2 : ℕ) = (j 2 : ℕ)
    omega

/-- A slab filled by copying the rows from `n` on of an argument loads as those rows. -/
theorem load_copied {k n : ℕ} (M : Memref sig .tc .vmem S4x128x512 .f32) (A : Memref sig .tc .hbm S512x512 .f32)
    (h : ∀ d, (![k, 0, 0] : Fin 3 → ℕ) d + S1x128x512.size d ≤ S4x128x512.size d)
    (h' : ∀ a, (![n, 0] : Fin 2 → ℕ) a + S128x512.size a ≤ S512x512.size a) (hn : n + 128 ≤ 512)
    (g : M.view.ty.Contents (Elt F)) (f : A.view.ty.Contents (Elt F)) :
    M.view.readAt (Elt F) (Rect.unit (s := S4x128x512) ![k, 0, 0] S1x128x512.size h).toLoadRect
        (((M.slice (Rect.unit (s := S4x128x512) ![k, 0, 0] S1x128x512.size h) (fun _ => rfl)).squeeze S128x512 squeezes_S1x128x512_S128x512).view.writes
          (Elt F) g [⟨Rect.whole S128x512, (A.slice (Rect.unit (s := S512x512) ![n, 0] S128x512.size h') (fun _ => rfl)).view.read (Elt F) f⟩])
      = slab (A.view.read (Elt F) f) n hn :=
  (load_filled M h squeezes_S1x128x512_S128x512 g _).trans (funext fun j => read_rows A n h' hn f j)

/-- What a load reads from a slot of an exchange buffer that holds `w` in both slots. -/
theorem load_both (k : ℕ) (h : ∀ d, (![k, 0, 0] : Fin 3 → ℕ) d + S1x2x512.size d ≤ S2x2x512.size d) (w : Vec F S1x2x512 .f32) :
    (Memref.whole cc0_scratch2).view.readAt (Elt F) (Rect.unit (s := S2x2x512) ![k, 0, 0] S1x2x512.size h).toLoadRect (both w) = w := by
  funext j
  rw [View.readAt_apply, View.read_apply]
  show w (ix3 0 _ _) = w j
  rw [eq_ix3 j]
  congr 1
  funext d
  refine Fin.ext ?_
  fin_cases d
  · exact (Nat.lt_one_iff.mp (j 0).2).symm
  · show 0 + 1 * (j 1 : ℕ) = (j 1 : ℕ)
    omega
  · show 0 + 1 * (j 2 : ℕ) = (j 2 : ℕ)
    omega

/-- Every element of a slot is the image of its own trailing coordinates. -/
theorem slot_emb {k : ℕ} {h} {i : S2x2x512.Idx} (hi : i ∈ (slot k h).view.set) :
    (slot k h).view.emb (ix2 (i 1) (i 2)) = i := by
  have hk := (mem_slot i).mp hi
  refine (squeeze_emb (Memref.whole cc0_scratch2) h squeezes_S1x2x512_S2x512 (ix3 0 (i 1) (i 2))).trans ?_
  funext d
  refine Fin.ext ?_
  fin_cases d
  · show k + 1 * 0 = (i 0 : ℕ)
    omega
  · show 0 + 1 * (i 1 : ℕ) = (i 1 : ℕ)
    omega
  · show 0 + 1 * (i 2 : ℕ) = (i 2 : ℕ)
    omega

/-- A store of `w` over the box of a slot leaves that slot as in the buffer with `w` in both. -/
theorem store_slot {k : ℕ} {h} (f : (View.whole cc0_scratch2).ty.Contents (Elt F)) (w : Vec F S1x2x512 .f32) {i : S2x2x512.Idx} (hi : i ∈ (slot k h).view.set) :
    ((Memref.whole cc0_scratch2).access (Rect.unit (s := S2x2x512) ![k, 0, 0] S1x2x512.size h)).write (Elt F) f w Finset.univ i = both w i := by
  have e : ((Memref.whole cc0_scratch2).access (Rect.unit (s := S2x2x512) ![k, 0, 0] S1x2x512.size h)).emb (ix3 0 (i 1) (i 2)) = i :=
    (squeeze_emb (Memref.whole cc0_scratch2) h squeezes_S1x2x512_S2x512 (ix3 0 (i 1) (i 2))).symm.trans (slot_emb hi)
  conv_lhs => rw [← e]
  exact View.write_emb_of_mem _ _ (Finset.mem_univ _)

/-- A slot of the buffer with `w` in both reads as `w`. -/
theorem read_both (k : ℕ) (h) (w : Vec F S1x2x512 .f32) (x : S2x512.Idx) :
    (slot k h).view.read (Elt F) (both w) x = w (ix3 0 (x 0) (x 1)) := by
  have e := congrFun (readAt_squeeze (F := F) (Memref.whole cc0_scratch2) h squeezes_S1x2x512_S2x512 (both w)) (ix3 0 (x 0) (x 1))
  rw [load_both] at e
  rw [e]
  exact congrArg _ (eq_ix2 x)

/-- Copying one such slot over the other leaves the other as in the buffer with `w` in both. -/
theorem copy_slot {k k' : ℕ} {h h'} (f : (slot k h).view.ty.Contents (Elt F)) (w : Vec F S1x2x512 .f32) {i : S2x2x512.Idx} (hi : i ∈ (slot k h).view.set) :
    (slot k h).view.write (Elt F) f ((slot k' h').view.read (Elt F) (both w)) Finset.univ i = both w i := by
  conv_lhs => rw [← slot_emb hi]
  refine (View.write_emb_of_mem _ _ (Finset.mem_univ _)).trans ?_
  exact read_both k' h' w _

/-- A slot just stored over reads as what was stored. -/
theorem read_stored (k : ℕ) (h : ∀ d, (![k, 0, 0] : Fin 3 → ℕ) d + S1x2x512.size d ≤ S2x2x512.size d)
    (f : (View.whole cc0_scratch2).ty.Contents (Elt F)) (w : Vec F S1x2x512 .f32) (x : S2x512.Idx) :
    (slot k h).view.read (Elt F) (((Memref.whole cc0_scratch2).access (Rect.unit (s := S2x2x512) ![k, 0, 0] S1x2x512.size h)).write (Elt F) f w Finset.univ) x
      = w (ix3 0 (x 0) (x 1)) := by
  have e := store_slot f w (View.emb_mem_set (slot k h).view x)
  refine Eq.trans ?_ (read_both k h w x)
  rw [View.read_apply, View.read_apply, e]

/-- A whole buffer written all over holds what was written. -/
theorem written_whole (b : Ref sig .tc) (f w : b.ty.Contents (Elt F)) :
    (View.whole b).writes (Elt F) f [⟨Rect.whole b.ty.shape, w⟩] = w := by
  funext i
  have e := View.read_writes_cons_emb (View.whole b) f (Rect.whole b.ty.shape) w [] i
  rw [Rect.emb_whole_apply] at e
  exact e

end Cert.KernelIdeal.Exchange
-- ==== Proof.Body.lean ====
module

public import proofs.«01_k».proof.Proof.Contents

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Tactic

variable {F : FTy → Type} [FloatOps F]

local notation "𝕄" => MT nD τ sig Unit (Elt F) ℕ UU ℕ

variable (m : (ℓ : Loc nD τ sig) → Buf (Elt F) ℓ)

/-- The `j`-th load semaphore. -/
abbrev loadSem (j : ℕ) (h : ∀ a, (![j] : Fin 1 → ℕ) a + S1.size a ≤ S8.size a) : DmaSem sig :=
  ((cc0_scratch3.slice (Rect.unit (s := S8) ![j] S1.size h)).squeeze S_ squeezes_S1_S_).sem

/-- Device `c` holds 128 rows of the first argument at contents `f`; -/
abbrev xAt (c : Dev nD) (n : ℕ) (h) (f : Buf (Elt F) ((xRows n h).view.loc (c : Thread nD τ))) : sProp 𝕄 :=
  (xRows n h).view.loc (c : Thread nD τ) ↦[(xRows n h).view.set]{fullShare} f
/-- of the second; -/
abbrev dyAt (c : Dev nD) (n : ℕ) (h) (f : Buf (Elt F) ((dyRows n h).view.loc (c : Thread nD τ))) : sProp 𝕄 :=
  (dyRows n h).view.loc (c : Thread nD τ) ↦[(dyRows n h).view.set]{fullShare} f
/-- a slab of the first scratch buffer; -/
abbrev xbAt (c : Dev nD) (n : ℕ) (h) (f : Buf (Elt F) ((xSlab n h).view.loc (c : Thread nD τ))) : sProp 𝕄 :=
  (xSlab n h).view.loc (c : Thread nD τ) ↦[(xSlab n h).view.set]{fullShare} f
/-- of the second. -/
abbrev dybAt (c : Dev nD) (n : ℕ) (h) (f : Buf (Elt F) ((dySlab n h).view.loc (c : Thread nD τ))) : sProp 𝕄 :=
  (dySlab n h).view.loc (c : Thread nD τ) ↦[(dySlab n h).view.set]{fullShare} f

variable (K : Dev nD × Fin 3 → ℕ)

/-- The invariants device `c`'s run opens, under the names `K`: its own three cells', and its peer's barrier and receive cells'. -/
def invs (c : Dev nD) : sProp 𝕄 :=
  iprop(cellInv EX (sched m) (K (c, 0)) (cell c 0) ∗ cellInv EX (sched m) (K (c, 1)) (cell c 1) ∗ cellInv EX (sched m) (K (c, 2)) (cell c 2)
    ∗ cellInv EX (sched m) (K (peer c, 0)) (cell (peer c) 0) ∗ cellInv EX (sched m) (K (peer c, 2)) (cell (peer c) 2))

/-- The invariants can be used any number of times. -/
instance invs_persistent (c : Dev nD) : BI.Persistent (invs m K c) := by unfold invs; infer_instance

/-- The exchange's ghost state device `c` starts from: those invariants, its positions at its own cells, the marks that the
    cells it pays stand at round 0, and the duty tokens of the three landings it causes. -/
def ghost (c : Dev nD) : sProp 𝕄 :=
  iprop(invs m K c
    ∗ atPos EX (cell c 0) 0 ∅ 0 ∗ atPos EX (cell c 1) 0 ∅ 0 ∗ atPos EX (cell c 2) 0 ∅ 0
    ∗ reached EX (cell (peer c) 0) 0 ∗ reached EX (cell (peer c) 2) 0 ∗ reached EX (cell c 1) 0 ∗ reached EX (cell c 2) 0
    ∗ dutyTok EX (cell (peer c) 0) 0 false ∗ dutyTok EX (cell (peer c) 2) 0 false ∗ dutyTok EX (cell c 1) 0 false)

/-- The counters of the eight load semaphores and of the store semaphore, all at zero. -/
def localSems (c : Dev nD) : sProp 𝕄 :=
  iprop(semVal ((c : Thread nD τ), SemLoc.dma (loadSem 0 inb_S8_S1_0)) 0 ∗ semVal ((c : Thread nD τ), SemLoc.dma (loadSem 1 inb_S8_S1_1)) 0
     ∗ semVal ((c : Thread nD τ), SemLoc.dma (loadSem 2 inb_S8_S1_2)) 0 ∗ semVal ((c : Thread nD τ), SemLoc.dma (loadSem 3 inb_S8_S1_3)) 0
     ∗ semVal ((c : Thread nD τ), SemLoc.dma (loadSem 4 inb_S8_S1_4)) 0 ∗ semVal ((c : Thread nD τ), SemLoc.dma (loadSem 5 inb_S8_S1_5)) 0
     ∗ semVal ((c : Thread nD τ), SemLoc.dma (loadSem 6 inb_S8_S1_6)) 0 ∗ semVal ((c : Thread nD τ), SemLoc.dma (loadSem 7 inb_S8_S1_7)) 0
     ∗ semVal ((c : Thread nD τ), SemLoc.dma (cc0_scratch4 : DmaSems sig S_).sem) 0)

/-- Both arguments, in the row groups the copies read. -/
def argPieces (c : Dev nD) : sProp 𝕄 :=
  iprop(xAt c 0 inb_S512x512_S128x512_0_0 (m ((c : Thread nD τ).loc main_arg0)) ∗ xAt c 128 inb_S512x512_S128x512_128_0 (m ((c : Thread nD τ).loc main_arg0))
     ∗ xAt c 256 inb_S512x512_S128x512_256_0 (m ((c : Thread nD τ).loc main_arg0)) ∗ xAt c 384 inb_S512x512_S128x512_384_0 (m ((c : Thread nD τ).loc main_arg0))
     ∗ dyAt c 0 inb_S512x512_S128x512_0_0 (m ((c : Thread nD τ).loc main_arg1)) ∗ dyAt c 128 inb_S512x512_S128x512_128_0 (m ((c : Thread nD τ).loc main_arg1))
     ∗ dyAt c 256 inb_S512x512_S128x512_256_0 (m ((c : Thread nD τ).loc main_arg1)) ∗ dyAt c 384 inb_S512x512_S128x512_384_0 (m ((c : Thread nD τ).loc main_arg1)))

/-- The scratch slabs, each at whatever it holds. -/
def scratchPieces (c : Dev nD) : sProp 𝕄 :=
  iprop((∃ f, xbAt c 0 inb_S4x128x512_S1x128x512_0_0_0 f) ∗ (∃ f, xbAt c 1 inb_S4x128x512_S1x128x512_1_0_0 f)
     ∗ (∃ f, xbAt c 2 inb_S4x128x512_S1x128x512_2_0_0 f) ∗ (∃ f, xbAt c 3 inb_S4x128x512_S1x128x512_3_0_0 f)
     ∗ (∃ f, dybAt c 0 inb_S4x128x512_S1x128x512_0_0_0 f) ∗ (∃ f, dybAt c 1 inb_S4x128x512_S1x128x512_1_0_0 f)
     ∗ (∃ f, dybAt c 2 inb_S4x128x512_S1x128x512_2_0_0 f) ∗ (∃ f, dybAt c 3 inb_S4x128x512_S1x128x512_3_0_0 f))

/-- What device `c` writes out: its own partial sums plus its peer's. -/
def result (c : Dev nD) : FVec F S2x512 .f32 := fun i => k0_pay1 (mine m c) (mine m (peer c)) (ix3 0 (i 0) (i 1))

/-- What a device's body starts from: the pieces of its arguments and scratch buffers, its counters and its debts. -/
def bodyPre (c : Dev nD) (W : Waits sig Unit) : sProp 𝕄 :=
  iprop(ghost m K c ∗ cred (tallyAt (cell c 0) () 1) ∗ cred (tallyAt (cell c 2) () bytes) ∗ levAts L lv
    ∗ localSems c ∗ argPieces m c ∗ scratchPieces c ∗ (∃ f, slotAt0 c f) ∗ (∃ f, slotAt1 c f)
    ∗ (∃ f : Buf (Elt F) ((c : Thread nD τ).loc main_v1), ((c : Thread nD τ).loc main_v1) ↦{fullShare} f)
    ∗ owes (c : Thread nD τ) (debt₀ c) W)

/-- What it leaves: the same pieces, the arguments as they were and the result written. -/
def bodyPost (c : Dev nD) : sProp 𝕄 :=
  iprop((semVal (cell c 0) 0 ∗ semVal (cell c 1) 0 ∗ semVal (cell c 2) 0)
    ∗ localSems c ∗ argPieces m c ∗ scratchPieces c ∗ (∃ f, slotAt0 c f) ∗ (∃ f, slotAt1 c f)
    ∗ (((c : Thread nD τ).loc main_v1) ↦{fullShare} (result m c : Buf (Elt F) ((c : Thread nD τ).loc main_v1)))
    ∗ ∃ W, owes (c : Thread nD τ) 0 W)

/-- The copy of the partial sums into the peer's slot 1, at the kernel's own spelling `n` of the peer. -/
theorem send_sums (c n : Dev nD) (hn : n = peer c) (fn : Buf (Elt F) (slot1.view.loc (peer c : Thread nD τ))) (W : Waits sig Unit)
    {hsc hsrc hdst hsem} {k : PUnit → Prog (TpuEff nD τ sig (Elt F) Λ₀ .tc) PUnit} {Q : PUnit → sProp 𝕄} :
    iprop(cellInv EX (sched m) (K (c, 1)) (cell c 1) ∗ cellInv EX (sched m) (K (peer c, 2)) (cell (peer c) 2)
        ∗ slotAt0 c (both (mine m c)) ∗ slotAt1 (peer c) fn ∗ owes (c : Thread nD τ) (debt c) W
        ∗ dutyTok EX (cell c 1) 0 false ∗ reached EX (cell c 1) 0
        ∗ dutyTok EX (cell (peer c) 2) 0 false ∗ reached EX (cell (peer c) 2) 0)
      ⊢ iprop(((cred (tallyAt (cell c 1) () bytes) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendSem) hsc) (.dma recvSem) hsrc hdst hsem) k) Q) := by
  subst hn
  unfold slotAt0 slotAt1
  exact Rounds.wp_send_pointsTo 𝒱₀ EX (sched m) (c : Thread nD τ) none (κ₁ := K (c, 1)) (κ₂ := K (peer c, 2))
    (r₁ := 0) (r₂ := 0) (d₁ := false) (d₂ := false) (fd := fn)
    (duty_mem m c 1) (duty_mem m (peer c) 2)
    () () bytes rfl (amount_cell m c 1 false) (amount_cell m (peer c) 2 false) 0 (by rw [zero_add]; rfl) (W := W)
    (Entails.of_eq (payload_cell m c 1 false).symm)
    (by
      rw [show (sched m).payload ((peer c : Thread nD τ), SemLoc.dma recvSem) 0 false = handed m (peer c) 2 from payload_cell m (peer c) 2 false]
      dsimp only [handed]
      unfold slotAt1
      rw [peer_peer]
      exact Entails.of_eq (pointsTo_congr (fun i hi => copy_slot fn (mine m c) hi)))

omit [FloatOps F] in
/-- The result buffer, held whole, is held by the elements its view names. -/
theorem out_whole (c : Dev nD) (f : Buf (Elt F) ((c : Thread nD τ).loc main_v1)) :
    (((c : Thread nD τ).loc main_v1) ↦{fullShare} f : sProp 𝕄)
      = ((Memref.whole main_v1).view.loc (c : Thread nD τ) ↦[(Memref.whole main_v1).view.set]{fullShare} f) := by
  rw [show (Memref.whole main_v1).view.set = Finset.univ from View.set_whole main_v1]

set_option maxHeartbeats 4000000 in
/-- The run of the kernel's one point on device `c`: from its ghost state, what it owes and its pieces, to its cells
    closed, the same pieces, and the result buffer at its own partial sums plus its peer's. -/
theorem run_body (c : Dev nD) (W : Waits sig Unit) (t : Fin cfg0.N) (Kt : PUnit → sProp 𝕄) :
    iprop(bodyPre m K c W ∗ (bodyPost m c -∗ Kt ⟨⟩))
      ⊢ wp frame (wpE (defs₀ (F := F)) 𝒱₀ c none) Set.univ (bodyAt0 t) Kt := by
  have hMW : ∀ (c : Dev nD) (s : SemLoc sig), s ≠ shared 2 → ((levAts L lv : sProp 𝕄) ⊢ MayWait (c : Thread nD τ) s () (debt c)) := fun c s hs => mayWait_debt c s hs
  unfold bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost invs localSems argPieces scratchPieces
  iintro ⟨⟨⟨⟨#HI0, #HI1, #HI2, #HP0, #HP2⟩, Hat0, Hat1, Hat2, #HrP0, #HrP2, #Hr1, #Hr2, HtP0, HtP2, Ht1⟩, Hc0, Hc2, #Hlev,
    ⟨Hs0, Hs1, Hs2, Hs3, Hs4, Hs5, Hs6, Hs7, Hs8⟩, ⟨Hx0, Hx1, Hx2, Hx3, Hy0, Hy1, Hy2, Hy3⟩,
    ⟨⟨%g0, Hbx0⟩, ⟨%g1, Hbx1⟩, ⟨%g2, Hbx2⟩, ⟨%g3, Hbx3⟩, ⟨%h0, Hby0⟩, ⟨%h1, Hby1⟩, ⟨%h2, Hby2⟩, ⟨%h3, Hby3⟩⟩,
    ⟨%f0, Hsl0⟩, ⟨%f1, Hsl1⟩, ⟨%fo, Ho⟩, HO⟩, Hk⟩
  -- the signal to the peer's barrier cell hands over slot 1
  unfold debt₀
  iapply (Rounds.wp_signal 𝒱₀ EX (sched m) (c : Thread nD τ) none (dst := (peer c : Thread nD τ)) (κ := K (peer c, 0))
      (d := false) (duty_mem m (peer c) 0) ((amount_cell m (peer c) 0 false).trans (by decide)) () (debt c) rfl) $$ [HO HtP0 Hsl1]
  · isplitr; · iexact HP0
    isplitl [HO]; · iexact HO
    isplitl [HtP0]; · iexact HtP0
    isplitl [Hsl1]
    · rw [show (sched m).payload ((peer c : Thread nD τ), SemLoc.reg barSem) 0 false = handed m (peer c) 0 from payload_cell m (peer c) 0 false]
      dsimp only [handed]; rw [peer_peer]
      isplitl [Hsl1]; · iexists f1; iexact Hsl1
      iexact Hr2
    · iexact HrP0
  iintro HO
  unfold slotAt0
  sl_exec
  have hx0 : run_body.sl.x m c = slab (m ((c : Thread nD τ).loc main_arg0)) 0 (by decide) :=
    load_copied (Memref.whole cc0_scratch0) (Memref.whole main_arg0) _ _ _ _ _
  have hx1 : run_body.sl.x_2 m c = slab (m ((c : Thread nD τ).loc main_arg0)) 128 (by decide) :=
    load_copied (Memref.whole cc0_scratch0) (Memref.whole main_arg0) _ _ _ _ _
  have hx2 : run_body.sl.x_4 m c = slab (m ((c : Thread nD τ).loc main_arg0)) 256 (by decide) :=
    load_copied (Memref.whole cc0_scratch0) (Memref.whole main_arg0) _ _ _ _ _
  have hx3 : run_body.sl.x_6 m c = slab (m ((c : Thread nD τ).loc main_arg0)) 384 (by decide) :=
    load_copied (Memref.whole cc0_scratch0) (Memref.whole main_arg0) _ _ _ _ _
  have hy0 : run_body.sl.x_1 m c = slab (m ((c : Thread nD τ).loc main_arg1)) 0 (by decide) :=
    load_copied (Memref.whole cc0_scratch1) (Memref.whole main_arg1) _ _ _ _ _
  have hy1 : run_body.sl.x_3 m c = slab (m ((c : Thread nD τ).loc main_arg1)) 128 (by decide) :=
    load_copied (Memref.whole cc0_scratch1) (Memref.whole main_arg1) _ _ _ _ _
  have hy2 : run_body.sl.x_5 m c = slab (m ((c : Thread nD τ).loc main_arg1)) 256 (by decide) :=
    load_copied (Memref.whole cc0_scratch1) (Memref.whole main_arg1) _ _ _ _ _
  have hy3 : run_body.sl.x_7 m c = slab (m ((c : Thread nD τ).loc main_arg1)) 384 (by decide) :=
    load_copied (Memref.whole cc0_scratch1) (Memref.whole main_arg1) _ _ _ _ _
  have hst : ∀ i ∈ slot0.view.set, run_body.sl.Hsl0_w1 m c f0 i = both (mine m c) i := fun i hi => by
    unfold run_body.sl.Hsl0_w1
    rw [hx0, hx1, hx2, hx3, hy0, hy1, hy2, hy3]
    exact store_slot f0 _ hi
  ihave Hsl0 := (Entails.of_eq (pointsTo_congr (fun i hi => hst i hi))) $$ Hsl0
  ihave Hp := (Entails.of_eq (round_cell m c 0)) $$ Hat0_pay1
  dsimp only [handed]
  icases Hp with ⟨⟨%fn, Hsl1⟩, #HrP2'⟩
  iapply (send_sums m K c _ (dev2_eq c) fn _) $$ [Hsl0 Hsl1 HO Ht1 HtP2]
  · isplitr; · iexact HI1
    isplitr; · iexact HP2
    isplitl [Hsl0]; · unfold slotAt0; iexact Hsl0
    isplitl [Hsl1]; · iexact Hsl1
    isplitl [HO]; · iexact HO
    isplitl [Ht1]; · iexact Ht1
    isplitr; · iexact Hr1
    isplitl [HtP2]; · iexact HtP2
    iexact HrP2
  iintro ⟨Hc1, HO⟩
  sl_exec
  ihave Hp0 := (Entails.of_eq (round_cell m c 1)) $$ Hat1_pay1
  ihave Hp1 := (Entails.of_eq (round_cell m c 2)) $$ Hat2_pay1
  dsimp only [handed]
  unfold slotAt0 slotAt1
  clear hx0 hx1 hx2 hx3 hy0 hy1 hy2 hy3 hst
  ihave Ho := (Entails.of_eq (out_whole c fo)) $$ Ho
  sl_exec
  have hout : (Memref.whole main_v1).view.writes (Elt F) fo [⟨Rect.whole main_v1.ty.shape, run_body.sl.dma4 m c⟩] = result m c := by
    refine (written_whole main_v1 fo _).trans ?_
    unfold run_body.sl.dma4 run_body.sl.Hp0_w1
    funext i
    refine (read_stored 0 _ _ _ i).trans ?_
    rw [load_both, load_both]
    rfl
  rw [hout]
  imod (Rounds.cell_close EX (sched m) (Set.mem_univ (K (c, 0))) (fun h => h) (R := 0 + 1) (duties_later m (cell c 0))) $$ [Hat0] with Hz0
  · isplitr; · iexact HI0
    iexact Hat0
  imod (Rounds.cell_close EX (sched m) (Set.mem_univ (K (c, 1))) (fun h => h) (R := 0 + 1) (duties_later m (cell c 1))) $$ [Hat1] with Hz1
  · isplitr; · iexact HI1
    iexact Hat1
  imod (Rounds.cell_close EX (sched m) (Set.mem_univ (K (c, 2))) (fun h => h) (R := 0 + 1) (duties_later m (cell c 2))) $$ [Hat2] with Hz2
  · isplitr; · iexact HI2
    iexact Hat2
  rw [wp_ret]; imodintro
  iapply Hk
  unfold bodyPost localSems argPieces scratchPieces slotAt0 slotAt1
  isplitl [Hz0 Hz1 Hz2]
  · isplitl [Hz0]; · iexact Hz0
    isplitl [Hz1]; · iexact Hz1
    iexact Hz2
  isplitl [Hs0 Hs1 Hs2 Hs3 Hs4 Hs5 Hs6 Hs7 Hs8]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  isplitl [Hx0 Hx1 Hx2 Hx3 Hy0 Hy1 Hy2 Hy3]
  · isplitl [Hx0]; · iexact Hx0
    isplitl [Hx1]; · iexact Hx1
    isplitl [Hx2]; · iexact Hx2
    isplitl [Hx3]; · iexact Hx3
    isplitl [Hy0]; · iexact Hy0
    isplitl [Hy1]; · iexact Hy1
    isplitl [Hy2]; · iexact Hy2
    iexact Hy3
  isplitl [Hbx0 Hbx1 Hbx2 Hbx3 Hby0 Hby1 Hby2 Hby3]
  · isplitl [Hbx0]; · iexists _; iexact Hbx0
    isplitl [Hbx1]; · iexists _; iexact Hbx1
    isplitl [Hbx2]; · iexists _; iexact Hbx2
    isplitl [Hbx3]; · iexists _; iexact Hbx3
    isplitl [Hby0]; · iexists _; iexact Hby0
    isplitl [Hby1]; · iexists _; iexact Hby1
    isplitl [Hby2]; · iexists _; iexact Hby2
    iexists _; iexact Hby3
  isplitl [Hp0]; · iexists _; iexact Hp0
  isplitl [Hp1]; · iexists _; iexact Hp1
  isplitl [Ho]
  · iapply (Entails.of_eq (out_whole c (result m c)).symm); iexact Ho
  iexists _; iexact HO

end Cert.KernelIdeal.Exchange
-- ==== Proof.Pieces.lean ====
/-
  The buffers cut into the pieces the copies move, and put together again: an argument is its four groups of 128 rows, a
  scratch buffer its four slabs, the exchange buffer its two slots.
-/
module

public import proofs.«01_k».proof.Proof.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.ShloMosaic.Ring
open Idealize.SL.BI.BIBase Idealize.SL.BI.Laws Idealize.SL.ProofMode Idealize.SL.Sem

variable {F : FTy → Type} [FloatOps F]

local notation "𝕄" => MT nD τ sig Unit (Elt F) ℕ UU ℕ

/-- Sets told apart by a number each of their elements carries do not meet; -/
theorem keyed_disjoint {ι : Type} {n : ℕ} (key : ι → ℕ) (I : Fin n → Finset ι) (h : ∀ b i, i ∈ I b ↔ key i = b) :
    ∀ b b', b ≠ b' → Disjoint (I b) (I b') := fun b b' hne =>
  Finset.disjoint_left.mpr fun i hi hi' => hne (Fin.ext (((h b i).mp hi).symm.trans ((h b' i).mp hi')))

/-- and they make up everything when every number is one of theirs. -/
theorem keyed_cover {ι : Type} [Fintype ι] [DecidableEq ι] {n : ℕ} (key : ι → ℕ) (I : Fin n → Finset ι)
    (h : ∀ b i, i ∈ I b ↔ key i = b) (hk : ∀ i, key i < n) : Finset.univ.biUnion I = Finset.univ :=
  Finset.eq_univ_iff_forall.mpr fun i => Finset.mem_biUnion.mpr ⟨⟨key i, hk i⟩, Finset.mem_univ _, (h _ i).mpr rfl⟩

/-- A separating product over two indices, written out; -/
theorem bigSep_two (Φ : Fin 2 → sProp 𝕄) : bigSep Finset.univ Φ = iprop(Φ 0 ∗ Φ 1) :=
  bigSep_univ_eq_bigSepL [0, 1] (by decide) (by decide) Φ
/-- over three; -/
theorem bigSep_three (Φ : Fin 3 → sProp 𝕄) : bigSep Finset.univ Φ = iprop(Φ 0 ∗ Φ 1 ∗ Φ 2) :=
  bigSep_univ_eq_bigSepL [0, 1, 2] (by decide) (by decide) Φ
/-- over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The arguments -/

/-- The `b`-th run of 128 rows lies inside an argument. -/
theorem rows_inb (b : Fin 4) : ∀ a, (![128 * (b : ℕ), 0] : Fin 2 → ℕ) a + S128x512.size a ≤ S512x512.size a := by
  revert b; decide

/-- A row lies in the run its number divided by 128 names, -/
theorem rows_key {b : Fin 4} (i : S512x512.Idx) : (128 * (b : ℕ) ≤ (i 0 : ℕ) ∧ (i 0 : ℕ) < 128 * (b : ℕ) + 128) ↔ (i 0 : ℕ) / 128 = b := by
  omega

/-- one of the four. -/
theorem rows_lt (i : S512x512.Idx) : (i 0 : ℕ) / 128 < 4 := by
  have : (i 0 : ℕ) < 512 := (i 0).2
  omega

/-- The elements of each row group of the arguments. -/
abbrev xSets (c : Dev nD) (b : Fin 4) : Finset (Idx ((c : Thread nD τ).loc main_arg0)) := (xRows (128 * b) (rows_inb b)).view.set
/-- the same of the second argument. -/
abbrev dySets (c : Dev nD) (b : Fin 4) : Finset (Idx ((c : Thread nD τ).loc main_arg1)) := (dyRows (128 * b) (rows_inb b)).view.set

/-- The first argument held whole is its four row groups held, -/
theorem x_cut (c : Dev nD) (f : Buf (Elt F) ((c : Thread nD τ).loc main_arg0)) :
    (((c : Thread nD τ).loc main_arg0) ↦{fullShare} f : sProp 𝕄)
      = iprop(xAt c 0 inb_S512x512_S128x512_0_0 f ∗ xAt c 128 inb_S512x512_S128x512_128_0 f
          ∗ xAt c 256 inb_S512x512_S128x512_256_0 f ∗ xAt c 384 inb_S512x512_S128x512_384_0 f) := by
  have h : ∀ (b : Fin 4) (i : S512x512.Idx), i ∈ xSets c b ↔ (i 0 : ℕ) / 128 = b :=
    fun b i => (mem_xRows i).trans (rows_key i)
  exact (pointsTo_blocks (xSets c) (keyed_disjoint (fun i : S512x512.Idx => (i 0 : ℕ) / 128) (xSets c) h)
    (keyed_cover (fun i : S512x512.Idx => (i 0 : ℕ) / 128) (xSets c) h rows_lt) f).trans (bigSep_four _)

/-- and so the second. -/
theorem dy_cut (c : Dev nD) (f : Buf (Elt F) ((c : Thread nD τ).loc main_arg1)) :
    (((c : Thread nD τ).loc main_arg1) ↦{fullShare} f : sProp 𝕄)
      = iprop(dyAt c 0 inb_S512x512_S128x512_0_0 f ∗ dyAt c 128 inb_S512x512_S128x512_128_0 f
          ∗ dyAt c 256 inb_S512x512_S128x512_256_0 f ∗ dyAt c 384 inb_S512x512_S128x512_384_0 f) := by
  have h : ∀ (b : Fin 4) (i : S512x512.Idx), i ∈ dySets c b ↔ (i 0 : ℕ) / 128 = b :=
    fun b i => (mem_dyRows i).trans (rows_key i)
  exact (pointsTo_blocks (dySets c) (keyed_disjoint (fun i : S512x512.Idx => (i 0 : ℕ) / 128) (dySets c) h)
    (keyed_cover (fun i : S512x512.Idx => (i 0 : ℕ) / 128) (dySets c) h rows_lt) f).trans (bigSep_four _)

variable (m : (ℓ : Loc nD τ sig) → Buf (Elt F) ℓ)

/-- Both arguments, held whole. -/
def argsWhole (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- They are the eight row groups the copies read, -/
theorem args_cut (c : Dev nD) : argsWhole m c ⊢ argPieces m c := by
  unfold argsWhole argPieces
  rw [x_cut, dy_cut]
  iintro ⟨⟨H0, H1, H2, H3⟩, Hr⟩
  isplitl [H0]; · iexact H0
  isplitl [H1]; · iexact H1
  isplitl [H2]; · iexact H2
  isplitl [H3]; · iexact H3
  iexact Hr

/-- and back. -/
theorem args_join (c : Dev nD) : argPieces m c ⊢ argsWhole m c := by
  unfold argsWhole argPieces
  rw [x_cut, dy_cut]
  iintro ⟨H0, H1, H2, H3, Hr⟩
  isplitr [Hr]
  · isplitl [H0]; · iexact H0
    isplitl [H1]; · iexact H1
    isplitl [H2]; · iexact H2
    iexact H3
  iexact Hr

/-! ## The scratch buffers -/

section Exists

variable {ℓ : Loc nD τ sig} {n : ℕ} (I : Fin n → Finset (Idx ℓ)) (key : Idx ℓ → ℕ)

/-- A buffer held whole at something is its pieces, each held at something; and back. -/
theorem exists_cut (h : ∀ b i, i ∈ I b ↔ key i = b) (hk : ∀ i, key i < n) :
    (iprop(∃ f, ℓ ↦{fullShare} f) : sProp 𝕄) ⊢ bigSep Finset.univ fun b => iprop(∃ f, ℓ ↦[I b]{fullShare} f) := by
  have hb : ∀ (b : Fin n) (f : Buf (Elt F) ℓ), (ℓ ↦[I b]{fullShare} f : sProp 𝕄) ⊢ iprop(∃ f, ℓ ↦[I b]{fullShare} f) := fun b f => by
    iintro H; iexists f; iexact H
  have hf : ∀ f : Buf (Elt F) ℓ, (ℓ ↦{fullShare} f : sProp 𝕄) ⊢ bigSep Finset.univ fun b => iprop(∃ f, ℓ ↦[I b]{fullShare} f) := fun f =>
    (Entails.of_eq (pointsTo_blocks I (keyed_disjoint key I h) (keyed_cover key I h hk) f)).trans
      (bigSep_mono fun b _ => hb b f)
  iintro ⟨%f, H⟩
  iapply (hf f); iexact H

/-- Its pieces, each held at something, are the buffer held whole at something. -/
theorem exists_join (h : ∀ b i, i ∈ I b ↔ key i = b) (hk : ∀ i, key i < n) :
    (bigSep Finset.univ fun b => iprop(∃ f, ℓ ↦[I b]{fullShare} f)) ⊢ (iprop(∃ f, ℓ ↦{fullShare} f) : sProp 𝕄) :=
  pointsTo_blocks_join_exists I (keyed_disjoint key I h) (keyed_cover key I h hk) (fun _ => Classical.arbitrary _)

end Exists

/-- The `b`-th slab lies inside a scratch buffer, -/
theorem slab_inb (b : Fin 4) : ∀ a, (![(b : ℕ), 0, 0] : Fin 3 → ℕ) a + S1x128x512.size a ≤ S4x128x512.size a := by
  revert b; decide
/-- the `b`-th slot inside the exchange buffer. -/
theorem slot_inb (b : Fin 2) : ∀ a, (![(b : ℕ), 0, 0] : Fin 3 → ℕ) a + S1x2x512.size a ≤ S2x2x512.size a := by
  revert b; decide

/-- The elements of each slab of the scratch buffers, and of each slot of the exchange buffer. -/
abbrev xbSets (c : Dev nD) (b : Fin 4) : Finset (Idx ((c : Thread nD τ).loc cc0_scratch0)) := (xSlab b (slab_inb b)).view.set
/-- of the second, -/
abbrev dybSets (c : Dev nD) (b : Fin 4) : Finset (Idx ((c : Thread nD τ).loc cc0_scratch1)) := (dySlab b (slab_inb b)).view.set
/-- and of a slot of the exchange buffer. -/
abbrev slotSets (c : Dev nD) (b : Fin 2) : Finset (Idx ((c : Thread nD τ).loc cc0_scratch2)) := (slot b (slot_inb b)).view.set

/-- The two scratch buffers, each held whole at something, are their eight slabs. -/
theorem scratch_cut (c : Dev nD) :
    (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄)
      ⊢ scratchPieces c := by
  iintro ⟨H0, H1⟩
  ihave H0 := ((exists_cut (F := F) (xbSets c) (fun i : S4x128x512.Idx => (i 0 : ℕ)) (fun b i => mem_xSlab i) (fun i => (i 0).2)).trans (Entails.of_eq (bigSep_four _))) $$ H0
  ihave H1 := ((exists_cut (F := F) (dybSets c) (fun i : S4x128x512.Idx => (i 0 : ℕ)) (fun b i => mem_dySlab i) (fun i => (i 0).2)).trans (Entails.of_eq (bigSep_four _))) $$ H1
  icases H0 with ⟨Ha, Hb, Hc, Hd⟩
  unfold scratchPieces
  isplitl [Ha]; · iexact Ha
  isplitl [Hb]; · iexact Hb
  isplitl [Hc]; · iexact Hc
  isplitl [Hd]; · iexact Hd
  iexact H1

/-- The scratch slabs, whatever they hold, make up the two buffers again. -/
theorem scratch_join (c : Dev nD) :
    scratchPieces c ⊢ (iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) : sProp 𝕄) := by
  unfold scratchPieces
  iintro ⟨Ha, Hb, Hc, Hd, H1⟩
  isplitl [Ha Hb Hc Hd]
  · iapply (exists_join (F := F) (xbSets c) (fun i : S4x128x512.Idx => (i 0 : ℕ)) (fun b i => mem_xSlab i) (fun i => (i 0).2))
    rw [bigSep_four]
    isplitl [Ha]; · iexact Ha
    isplitl [Hb]; · iexact Hb
    isplitl [Hc]; · iexact Hc
    iexact Hd
  · iapply (exists_join (F := F) (dybSets c) (fun i : S4x128x512.Idx => (i 0 : ℕ)) (fun b i => mem_dySlab i) (fun i => (i 0).2))
    rw [bigSep_four]
    iexact H1

/-- The exchange buffer held whole at something is its two slots. -/
theorem slots_cut (c : Dev nD) :
    (iprop(∃ f : Buf (Elt F) ((c : Thread nD τ).loc cc0_scratch2), ((c : Thread nD τ).loc cc0_scratch2) ↦{fullShare} f) : sProp 𝕄)
      ⊢ iprop((∃ f, slotAt0 c f) ∗ (∃ f, slotAt1 c f)) :=
  (exists_cut (F := F) (slotSets c) (fun i : S2x2x512.Idx => (i 0 : ℕ)) (fun b i => mem_slot i) (fun i => (i 0).2)).trans
    (Entails.of_eq (bigSep_two _))

/-- The two slots, whatever they hold, make up the exchange buffer again. -/
theorem slots_join (c : Dev nD) :
    iprop((∃ f, slotAt0 c f) ∗ (∃ f, slotAt1 c f))
      ⊢ (iprop(∃ f : Buf (Elt F) ((c : Thread nD τ).loc cc0_scratch2), ((c : Thread nD τ).loc cc0_scratch2) ↦{fullShare} f) : sProp 𝕄) :=
  (Entails.of_eq (bigSep_two fun b => iprop(∃ f, ((c : Thread nD τ).loc cc0_scratch2) ↦[slotSets c b]{fullShare} f)).symm).trans
    (exists_join (F := F) (slotSets c) (fun i : S2x2x512.Idx => (i 0 : ℕ)) (fun b i => mem_slot i) (fun i => (i 0).2))

end Cert.KernelIdeal.Exchange
-- ==== Proof.Launch.lean ====
/-
  From the run of one device to the run of the whole mesh: the shared cells' invariants made at launch and their tokens
  dealt across each pair, the pipeline's proof data, and what every final state holds.
-/
module

public import proofs.«01_k».proof.Proof.Pieces
public import Idealize.ShloMosaic.Lib.Pipeline.CollectiveSegs
public import Idealize.ShloMosaic.Lib.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens, minted -/

/-- Different devices or different shared semaphores give different cells. -/
theorem cell_inj : Function.Injective fun ck : Dev nD × Fin 3 => cell ck.1 ck.2 := by
  rintro ⟨c, k⟩ ⟨c', k'⟩ h
  have h1 : c = c' := congrArg (fun g : GSem nD τ sig => g.1.1) h
  have h2 : k = k' := shared_inj (congrArg Prod.snd h)
  rw [h1, h2]

/-- Every shared cell, and its one token. -/
def cells : Finset (GSem nD τ sig) := Finset.univ.map ⟨_, cell_inj⟩
/-- One token for each cell's one duty. -/
def tokens : Finset (GSem nD τ sig × ℕ × Bool) :=
  Finset.univ.map ⟨fun ck : Dev nD × Fin 3 => (cell ck.1 ck.2, 0, false), fun _ _ h => cell_inj (congrArg Prod.fst h)⟩

/-- The ghost state the launch starts from. -/
def u₀ : UU := (initOf (Pipeline.cells cfgs cellOf_inj) (Pipeline.launchToks cfgs cellOf_inj), (initOf cells tokens, 1))

omit [FloatOps F] in
/-- Owning both ghost components is owning each. -/
theorem ownU_parts (a : UR sig nD τ) (b : UE) : (ownU ((a, (b, 1)) : UU) : sProp 𝕄) ⊢ iprop(BI.own (EP a) ∗ BI.own (EX b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch deals for one shared cell beside its round's state: its position, its mark at round 0, its token. -/
def dealt (ck : Dev nD × Fin 3) : sProp 𝕄 :=
  iprop(atPos EX (cell ck.1 ck.2) 0 ∅ 0 ∗ reached EX (cell ck.1 ck.2) 0 ∗ dutyTok EX (cell ck.1 ck.2) 0 false)

/-- What it deals device `c`. -/
def G (c : Dev nD) : sProp 𝕄 :=
  iprop((bigSep Finset.univ fun k : Fin 3 => roundState EX (sched m) (cell c k) 0) ∗ bigSep Finset.univ fun k : Fin 3 => dealt (c, k))

/-- What device `c` starts from once the invariants stand. -/
def G' (c : Dev nD) : sProp 𝕄 := iprop((∃ K, ghost m K c) ∗ localSems c)

/-- The ghost state's start gives every cell its share. -/
theorem fund_cells : BI.own (EX (initOf cells tokens)) ⊢ (|==> bigSep Finset.univ (G m) : sProp 𝕄) := by
  have hcells (Φ : GSem nD τ sig → sProp 𝕄) : bigSep cells Φ = bigSep Finset.univ fun c : Dev nD => bigSep Finset.univ fun k : Fin 3 => Φ (cell c k) := by
    unfold cells; rw [bigSep_map, bigSep_univ_prod]; rfl
  have htoks : bigSep tokens (fun x => (dutyTok EX x.1 x.2.1 x.2.2 : sProp 𝕄))
      = bigSep Finset.univ fun c : Dev nD => bigSep Finset.univ fun k : Fin 3 => dutyTok EX (cell c k) 0 false := by
    unfold tokens; rw [bigSep_map, bigSep_univ_prod]; rfl
  iintro H
  imod (Rounds.fund EX (sched m) cells tokens) $$ H with ⟨Hst, Hr, Hat, Htok⟩
  imodintro
  ihave Hst := (Entails.of_eq (hcells fun g => roundState EX (sched m) g 0)) $$ Hst
  ihave Hat := (Entails.of_eq (hcells fun g => atPos EX g 0 ∅ 0)) $$ Hat
  ihave Hr := (Entails.of_eq (hcells fun g => reached EX g 0)) $$ Hr
  ihave Htok := (Entails.of_eq htoks) $$ Htok
  unfold G dealt; simp only [bigSep_sep']
  isplitl [Hst]; · iexact Hst
  isplitl [Hat]; · iexact Hat
  isplitl [Hr]; · iexact Hr
  iexact Htok

/-! ## The invariants made, the tokens dealt across each pair -/

/-- The kernel's own eleven DMA semaphores: eight for the loads, one for the store, the send and the receive one. -/
abbrev osem (k : Fin 11) : SemLoc sig := .dma ⟨k, k.2⟩

/-- The call's own semaphores are those its scratch declares. -/
theorem ownSemFacts : Pipeline.OwnSemFacts cfg0.spec osem := by decide

/-- The call's own counters at zero, one by one. -/
theorem ownSems0_list (c : Dev nD) :
    (Pipeline.ownSems0 (Ix := Unit) (Name := ℕ) (U := UU) (Lvl := ℕ) (Val := Elt F) (τ := τ) osem c : sProp 𝕄)
      = iprop(semVal (cell c 1) 0 ∗ semVal (cell c 2) 0 ∗ localSems c) := by
  rw [Pipeline.ownSems0_eq_of_list c osem [9, 10, 0, 1, 2, 3, 4, 5, 6, 7, 8] (by decide) (by decide)]; rfl

/-- The one counter outside the call is the barrier's. -/
theorem unscopedSems0_list (c : Dev nD) : (unscopedSems0 c : sProp 𝕄) = semVal (cell c 0) 0 := by
  unfold unscopedSems0; rw [bigSep_eq_bigSepL_of_eq [SemLoc.reg barSem] (by decide) (by decide)]; rfl

/-- On one device, its three shared cells' counters and round states become invariants. -/
theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 3 => iprop(∃ κ : ℕ, cellInv EX (sched m) κ (cell c k)))
          ∗ (bigSep Finset.univ fun k : Fin 3 => dealt (c, k)) ∗ localSems c) := by
  have hinv : iprop((bigSep Finset.univ fun k : Fin 3 => semVal (cell c k) 0) ∗ bigSep Finset.univ fun k : Fin 3 => roundState EX (sched m) (cell c k) 0)
      ⊢ (|={Set.univ}=> bigSep Finset.univ fun k : Fin 3 => iprop(∃ κ : ℕ, cellInv EX (sched m) κ (cell c k)) : sProp 𝕄) := by
    rw [← bigSep_sep']
    exact (bigSep_mono fun k _ => (Rounds.body_intro EX (sched m) (cell c k)).trans inv_alloc).trans (bigSep_fupd _ _)
  rw [ownSems0_list, unscopedSems0_list]
  unfold G
  iintro ⟨⟨H1, H2, Hl⟩, H0, Hst, Hd⟩
  imod hinv $$ [H0 H1 H2 Hst] with Hinv
  · isplitr [Hst]
    · rw [bigSep_three]
      isplitl [H0]; · iexact H0
      isplitl [H1]; · iexact H1
      iexact H2
    · iexact Hst
  imodintro
  isplitl [Hinv]; · iexact Hinv
  isplitl [Hd]; · iexact Hd
  iexact Hl

/-- The tokens of the landings device `c` causes. -/
def paid (c : Dev nD) : sProp 𝕄 :=
  iprop(dutyTok EX (cell (peer c) 0) 0 false ∗ dutyTok EX (cell (peer c) 2) 0 false ∗ dutyTok EX (cell c 1) 0 false)

omit [FloatOps F] in
/-- Each device keeps its send cell's token and swaps the other two with its peer's. -/
theorem tokens_across :
    (bigSep Finset.univ fun ck : Dev nD × Fin 3 => (dutyTok EX (cell ck.1 ck.2) 0 false : sProp 𝕄)) ⊢ bigSep Finset.univ fun c : Dev nD => paid c := by
  have h3 (c : Dev nD) : (bigSep Finset.univ fun k : Fin 3 => (dutyTok EX (cell c k) 0 false : sProp 𝕄))
      = iprop(dutyTok EX (cell c 0) 0 false ∗ dutyTok EX (cell c 1) 0 false ∗ dutyTok EX (cell c 2) 0 false) :=
    bigSep_univ_eq_bigSepL [0, 1, 2] (by decide) (by decide) _
  rw [bigSep_univ_prod, bigSep_congr fun c _ => h3 c]
  unfold paid
  rw [bigSep_sep', bigSep_sep', bigSep_sep', bigSep_sep',
    bigSep_univ_equiv peerEquiv (fun c : Dev nD => (dutyTok EX (cell c 0) 0 false : sProp 𝕄)),
    bigSep_univ_equiv peerEquiv (fun c : Dev nD => (dutyTok EX (cell c 2) 0 false : sProp 𝕄))]
  iintro ⟨H0, H1, H2⟩
  isplitl [H0]; · iexact H0
  isplitl [H2]; · iexact H2
  iexact H1

/-- Every shared cell's invariant and mark, known to all. -/
def known (K : Dev nD × Fin 3 → ℕ) : sProp 𝕄 :=
  iprop((bigSep Finset.univ fun ck : Dev nD × Fin 3 => cellInv EX (sched m) (K ck) (cell ck.1 ck.2))
    ∗ bigSep Finset.univ fun ck : Dev nD × Fin 3 => reached EX (cell ck.1 ck.2) 0)

/-- What all devices know can be used any number of times. -/
instance known_persistent (K : Dev nD × Fin 3 → ℕ) : BI.Persistent (known m K) := by unfold known; infer_instance

/-- Each cell's invariant is among what all know, -/
theorem known_inv (K : Dev nD × Fin 3 → ℕ) (c : Dev nD) (k : Fin 3) : known m K ⊢ cellInv EX (sched m) (K (c, k)) (cell c k) := by
  have h : (bigSep Finset.univ fun ck : Dev nD × Fin 3 => (cellInv EX (sched m) (K ck) (cell ck.1 ck.2) : sProp 𝕄)) ⊢ cellInv EX (sched m) (K (c, k)) (cell c k) :=
    bigSep_elim (Finset.mem_univ (c, k))
  unfold known
  iintro ⟨H, -⟩
  iapply h $$ H
/-- and so is that the cell stands at its start. -/
theorem known_reached (K : Dev nD × Fin 3 → ℕ) (c : Dev nD) (k : Fin 3) : known m K ⊢ reached EX (cell c k) 0 := by
  have h : (bigSep Finset.univ fun ck : Dev nD × Fin 3 => (reached EX (cell ck.1 ck.2) 0 : sProp 𝕄)) ⊢ reached EX (cell c k) 0 :=
    bigSep_elim (Finset.mem_univ (c, k))
  unfold known
  iintro ⟨-, H⟩
  iapply h $$ H

/-- What stays with device `c`. -/
def kept (c : Dev nD) : sProp 𝕄 :=
  iprop((bigSep Finset.univ fun k : Fin 3 => atPos EX (cell c k) 0 ∅ 0) ∗ paid c ∗ localSems c)

/-- What all know and what one device keeps make up that device's ghost state. -/
theorem ghost_of_known (K : Dev nD × Fin 3 → ℕ) (c : Dev nD) : iprop(known m K ∗ kept c) ⊢ G' m c := by
  unfold kept paid G' ghost invs
  rw [bigSep_three]
  iintro ⟨#HK, ⟨Ha0, Ha1, Ha2⟩, ⟨Ht0, Ht2, Ht1⟩, Hl⟩
  isplitr [Hl]
  · iexists K
    isplitr
    · isplitr; · iapply (known_inv m K c 0); iexact HK
      isplitr; · iapply (known_inv m K c 1); iexact HK
      isplitr; · iapply (known_inv m K c 2); iexact HK
      isplitr; · iapply (known_inv m K (peer c) 0); iexact HK
      iapply (known_inv m K (peer c) 2); iexact HK
    isplitl [Ha0]; · iexact Ha0
    isplitl [Ha1]; · iexact Ha1
    isplitl [Ha2]; · iexact Ha2
    isplitr; · iapply (known_reached m K (peer c) 0); iexact HK
    isplitr; · iapply (known_reached m K (peer c) 2); iexact HK
    isplitr; · iapply (known_reached m K c 1); iexact HK
    isplitr; · iapply (known_reached m K c 2); iexact HK
    isplitl [Ht0]; · iexact Ht0
    isplitl [Ht2]; · iexact Ht2
    iexact Ht1
  · iexact Hl

/-- The cells' shares, dealt out by cell, dealt out again by device. -/
theorem regroup :
    (bigSep Finset.univ fun c : Dev nD => iprop((bigSep Finset.univ fun k : Fin 3 => iprop(∃ κ : ℕ, cellInv EX (sched m) κ (cell c k)))
          ∗ (bigSep Finset.univ fun k : Fin 3 => dealt (c, k)) ∗ localSems c) : sProp 𝕄)
      ⊢ bigSep Finset.univ (G' m) := by
  rw [bigSep_sep', bigSep_sep', ← bigSep_univ_prod (fun ck : Dev nD × Fin 3 => iprop(∃ κ : ℕ, cellInv EX (sched m) κ (cell ck.1 ck.2))),
    ← bigSep_univ_prod (fun ck : Dev nD × Fin 3 => (dealt ck : sProp 𝕄))]
  unfold dealt
  rw [bigSep_sep', bigSep_sep', bigSep_univ_prod (fun ck : Dev nD × Fin 3 => (atPos EX (cell ck.1 ck.2) 0 ∅ 0 : sProp 𝕄))]
  iintro ⟨HI, ⟨Hat, #HR, Htok⟩, Hl⟩
  ihave HK := (BI.bigSep_exists_pi Finset.univ (fun (ck : Dev nD × Fin 3) (κ : ℕ) => (cellInv EX (sched m) κ (cell ck.1 ck.2) : sProp 𝕄))) $$ HI
  icases HK with ⟨%K, #HI⟩
  ihave Hp := (tokens_across (F := F)) $$ Htok
  iapply (bigSep_with_persistent (R := known m K) fun c _ => ghost_of_known m K c)
  isplitr
  · unfold known; isplitl; · iexact HI
    iexact HR
  · unfold kept
    rw [bigSep_sep', bigSep_sep']
    isplitl [Hat]; · iexact Hat
    isplitl [Hp]; · iexact Hp
    iexact Hl

/-- All devices at once: from their semaphores at zero and the launch's ghost state, what each starts from. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => alloc_device m c).trans (bigSep_fupd _ _)).trans (BI.fupd_mono (regroup m))

omit [FloatOps F] in
/-- What the peers owe device `c`, it holds as credit. -/
theorem creds (c : Dev nD) :
    (Pipeline.launchCred debt₀ c : sProp 𝕄) ⊢ iprop(cred (tallyAt (cell c 0) () 1) ∗ cred (tallyAt (cell c 2) () bytes)) := by
  have h := Pipeline.launchCred_add (Ix := Unit) (Val := Elt F) (Name := ℕ) (U := UU) (Lvl := ℕ) debt (fun d => tallyAt (cell (peer d) 0) () 1) c
  have h2 : (Pipeline.launchCred debt c : sProp 𝕄) ⊢ cred (tallyAt (cell c 2) () bytes) :=
    Pipeline.launchCred_tallyAt (shared 2) peer peer peer_peer peer_peer () bytes c
  refine (Entails.of_eq h).trans ?_
  iintro ⟨H2, H0⟩
  isplitl [H0]
  · iapply (Pipeline.launchCred_tallyAt (shared 0) peer peer peer_peer peer_peer () 1 c) $$ H0
  · iapply h2 $$ H2

/-! ## The pipeline's proof data -/

/-- The scratch buffers, each whole at something. -/
def scratchWhole (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What a device brings to its one point, the scratch buffers apart. -/
def start (c : Dev nD) : sProp 𝕄 :=
  iprop(G' m c ∗ cred (tallyAt (cell c 0) () 1) ∗ cred (tallyAt (cell c 2) () bytes) ∗ levAts L lv ∗ argsWhole m c
    ∗ (∃ f : Buf (Elt F) ((c : Thread nD τ).loc main_v1), ((c : Thread nD τ).loc main_v1) ↦{fullShare} f))

/-- What it leaves with, the scratch buffers and its own semaphores apart: its barrier cell at zero, the arguments as
    they were, the result computed. -/
def leave (c : Dev nD) : sProp 𝕄 :=
  iprop(unscopedSems0 c ∗ argsWhole m c
    ∗ (((c : Thread nD τ).loc main_v1) ↦{fullShare} (result m c : Buf (Elt F) ((c : Thread nD τ).loc main_v1))))

/-- What a device holds as its call's one step begins, -/
def before (c : Dev nD) : sProp 𝕄 := iprop(start m c ∗ scratchWhole c)
/-- and as it ends. -/
def after (c : Dev nD) : sProp 𝕄 :=
  iprop(leave m c ∗ Pipeline.ownSems0 (Ix := Unit) (Name := ℕ) (U := UU) (Lvl := ℕ) (Val := Elt F) (τ := τ) osem c ∗ scratchWhole c)

/-- The same as the launch wants it: before the one step, after it, and the debts at each point. -/
def dats (_ : Fin 1) (c : Dev nD) : Dat τ (Elt F) Unit ℕ UU ℕ cfg0 c where
  A w := Fin.elim0 w
  after w _ := Fin.elim0 w
  Φ t := match t with
    | ⟨0, _⟩ => before m c
    | ⟨_ + 1, _⟩ => after m c
  q _ := fullShare
  owed t := match t with
    | ⟨0, _⟩ => debt₀ c
    | ⟨_ + 1, _⟩ => 0

/-- The library's obligation: the one point takes a device from what it brings to what it leaves. -/
theorem body_obligation (c : Dev nD) : BodyObligation (dats m 0 c) (defs₀ (F := F)) 𝒱₀ () Set.univ := fun t => by
  have hE : ∀ Φ : Fin cfg0.W → sProp 𝕄, bigSep Finset.univ Φ = iprop(emp) := fun Φ => by
    rw [show (Finset.univ : Finset (Fin cfg0.W)) = ∅ from rfl]; exact bigSep_empty
  rw [fin_N0 t, hE, hE]
  show iprop(before m c ∗ (dats m 0 c).owesAt () t0_0.castSucc ∗ emp)
    ⊢ wp frame (wpE (defs₀ (F := F)) 𝒱₀ c none) Set.univ (bodyAt0 t0_0)
        fun _ => iprop(after m c ∗ (dats m 0 c).owesAt () t0_0.succ ∗ emp)
  unfold before start G' scratchWhole
  iintro ⟨⟨⟨⟨⟨%K, Hg⟩, Hl⟩, Hc0, Hc2, Hlev, Ha, Ho⟩, Hsx, Hsy, Hsl⟩, ⟨%W, -, HO⟩, -⟩
  ihave Hsl := (slots_cut (F := F) c) $$ Hsl
  icases Hsl with ⟨Hsl0, Hsl1⟩
  iapply (run_body m K c W t0_0)
  isplitr []
  · unfold bodyPre
    isplitl [Hg]; · iexact Hg
    isplitl [Hc0]; · iexact Hc0
    isplitl [Hc2]; · iexact Hc2
    isplitl [Hlev]; · iexact Hlev
    isplitl [Hl]; · iexact Hl
    isplitl [Ha]; · iapply (args_cut m c) $$ Ha
    isplitl [Hsx Hsy]
    · iapply (scratch_cut (F := F) c)
      isplitl [Hsx]; · iexact Hsx
      iexact Hsy
    isplitl [Hsl0]; · iexact Hsl0
    isplitl [Hsl1]; · iexact Hsl1
    isplitl [Ho]; · iexact Ho
    iexact HO
  · unfold bodyPost after leave scratchWhole
    rw [ownSems0_list, unscopedSems0_list]
    iintro ⟨⟨Hz0, Hz1, Hz2⟩, Hl, Ha, Hs, Hsl0, Hsl1, Ho, ⟨%W', HO⟩⟩
    ihave Hs := (scratch_join (F := F) c) $$ Hs
    icases Hs with ⟨Hsx, Hsy⟩
    isplitr [HO]
    · isplitl [Hz0 Ha Ho]
      · isplitl [Hz0]; · iexact Hz0
        isplitl [Ha]; · iapply (args_join m c) $$ Ha
        iexact Ho
      isplitl [Hz1 Hz2 Hl]
      · isplitl [Hz1]; · iexact Hz1
        isplitl [Hz2]; · iexact Hz2
        iexact Hl
      isplitl [Hsx]; · iexact Hsx
      isplitl [Hsy]; · iexact Hsy
      iapply (slots_join (F := F) c)
      isplitl [Hsl0]; · iexact Hsl0
      iexact Hsl1
    · isplitl [HO]
      · iexists W'
        isplitr; · ipureintro; exact fun _ _ => Or.inl trivial
        iexact HO
      iempintro

/-! ## The run of the mesh -/

/-- The unscoped buffers go to the device's start, the argument the kernel never touches aside. -/
theorem start_intro (c : Dev nD) :
    iprop(Pipeline.unscopedRestP Pipeline.Prefetch.none cfg0.spec c (fun b => m ((c : Thread nD τ).loc b)) ∗ levAts L lv
        ∗ Pipeline.launchCred debt₀ c ∗ prngReg c (ρ c) ∗ G' m c)
      ⊢ |={Set.univ}=> iprop(start m c ∗ (((c : Thread nD τ).loc main_arg2) ↦{fullShare} m ((c : Thread nD τ).loc main_arg2))) := by
  rw [Pipeline.unscopedRestP_none, unscopedRest0_eq]
  iintro ⟨⟨Hx, Hy, Hz, Ho⟩, Hlev, Hcr, -, HG⟩
  ihave Hc := (creds (F := F) c) $$ Hcr
  icases Hc with ⟨Hc0, Hc2⟩
  imodintro
  unfold start argsWhole
  isplitr [Hz]
  · isplitl [HG]; · iexact HG
    isplitl [Hc0]; · iexact Hc0
    isplitl [Hc2]; · iexact Hc2
    isplitl [Hlev]; · iexact Hlev
    isplitl [Hx Hy]
    · isplitl [Hx]; · iexact Hx
      iexact Hy
    iexists _; iexact Ho
  · iexact Hz

/-- What the launch hands a device is what its step starts from. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratchWhole
  iintro ⟨Hs, -, Hr⟩
  isplitl [Hs]; · iexact Hs
  iexact Hr

/-- What the step leaves is what the launch takes back. -/
theorem after_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = after m c from rfl, scopedRest0_eq]
  unfold after scratchWhole
  iintro H; iexact H

/-- What device `c`'s memory holds at the end: the arguments as they were, the result computed, and every semaphore the
    kernel does not scope at zero. -/
def final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = result m c)
  ∧ ∀ sm : SemLoc sig, sm.isScoped .tc = false → s.sem ((c.tc : Thread nD τ), sm) = 0

/-- What a device holds at the end, read off the final memory. -/
theorem read_final (c : Dev nD) (s' : Phys nD τ sig (Elt F)) :
    iprop(leave m c ∗ (((c : Thread nD τ).loc main_arg2) ↦{fullShare} m ((c : Thread nD τ).loc main_arg2)) ∗ SI s')
      ⊢ |={Set.univ}=> iprop(⌜final m c s'.mem⌝ ∗ SI s') := by
  unfold leave argsWhole
  iintro ⟨⟨Hu, ⟨Hx, Hy⟩, Ho⟩, Hz, HSI⟩
  icombine HSI Hx gives %hx
  icombine HSI Hy gives %hy
  icombine HSI Hz gives %hz
  icombine HSI Ho gives %ho
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨Buf.eq_of_forall_mem_univ hx, Buf.eq_of_forall_mem_univ hy, Buf.eq_of_forall_mem_univ hz, Buf.eq_of_forall_mem_univ ho⟩, hs⟩
  · iexact HSI

set_option maxRecDepth 8000 in
/-- On the mesh of eight devices, over any float values, from any memory with zero counters: every weakly fair execution
    of the program terminates, and in every final state each device holds its arguments unchanged and, in the result
    buffer, its own partial sums plus its peer's; every semaphore counter is zero. -/
theorem run_main : θ_run defs (onTc (τ := τ) (main (F := F))) ⟨m, fun _ => 0, ρ⟩ (fun r => (∀ c : Dev nD, final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => Fin.elim0 w) (harr := arr_whole0) (hstage := stage_whole0)
    (hshare := fun _ w => Fin.elim0 w) (hdistinct := winFacts0.arr_inj)
    (O₀ := debt₀) (howed₀ := fun _ => rfl) (howedN := fun _ => rfl)
    (L := L) (lv := lv) (hL := L_other)
    (hwaits := fun c => Pipeline.cellsWaits_intro cfgs (dats m) () 0 c fun w => Fin.elim0 w)
    (G := G m) (G' := G' m) (u₀ := u₀)
    (hu₀ := by
      unfold u₀
      iintro Hu
      ihave H := (ownU_parts _ _) $$ Hu
      icases H with ⟨HP, HX⟩
      imod (fund_cells m) $$ HX with HG
      imodintro
      isplitl [HP]; · iexact HP
      iexact HG)
    (hglob := glob m)
    (hA := fun _ w => Fin.elim0 w) (hpf := fun _ k => k.elim0)
    (X := start m) (Y := leave m) (Z := fun c => iprop(((c : Thread nD τ).loc main_arg2) ↦{fullShare} m ((c : Thread nD τ).loc main_arg2)))
    (hX := start_intro m ρ) (hin := before_intro m) (hout := after_exit m)
    (QY := final m) (hY := read_final m)
    (hQ := fun _ h hs => ⟨fun c => (h c).2.2, sem_eq_zero hs fun c => (h c).2.2.2⟩)

end Cert.KernelIdeal.Exchange
-- ==== Proof.RowSums.lean ====
/-
  What a device's partial result is over the extended reals: two sums over the device's 512 rows.

  A row of `x` is normalised by its own mean and variance, whatever slab it lies in. Each of the four slabs adds to the
  running sums the same two sums over its 128 rows; the four printed spellings of that step differ only in which values
  were already at hand. Addition being commutative and associative on all extended reals, the four add up to the sums
  over all 512 rows, with no condition on the arguments.
-/
module

public import proofs.«01_k».proof.Proof.Protocol
public import Idealize.ShloMosaic.Lib.Pointwise
public import Idealize.ShloMosaic.PureOps.Ideal

@[expose] public section

noncomputable section

namespace Cert.KernelIdeal.Exchange

open Cert.KernelIdeal Cert.KernelIdeal.Gen
open Idealize.ShloMosaic

/-! ## One row -/

/-- The mean of a row of 512 entries. -/
def rowMean (r : Fin 512 → EReal) : EReal := Ideal.div (∑ k, r k) (Ideal.ofBits .f32 0x44000000#32)

/-- The variance of a row of 512 entries. -/
def rowVar (r : Fin 512 → EReal) : EReal :=
  Ideal.div (∑ k, (r k - rowMean r) * (r k - rowMean r)) (Ideal.ofBits .f32 0x44000000#32)

/-- Entry `l` of a row of 512 entries, normalised. -/
def normal (r : Fin 512 → EReal) (l : Fin 512) : EReal :=
  (r l - rowMean r) * Ideal.rsqrt (rowVar r + Ideal.ofBits .f32 0x3727C5AC#32)

/-! ## One slab -/

/-- What a slab of 128 rows adds to column `l` of the first sum: the products with the normalised rows. -/
def slabGamma (x y : Vec Ideal S1x128x512 .f32) (l : Fin 512) : EReal :=
  ∑ p : Fin 128, y (ix3 0 p l) * normal (fun k => x (ix3 0 p k)) l

/-- What it adds to column `l` of the second: the entries themselves. -/
def slabBeta (y : Vec Ideal S1x128x512 .f32) (l : Fin 512) : EReal := ∑ p : Fin 128, y (ix3 0 p l)

set_option maxRecDepth 16384 in
/-- The first slab's step adds the slab's products, -/
theorem first_gamma (g : FVec Ideal S1x512 .f32) (x y : Vec Ideal S1x128x512 .f32) (l : Fin 512) :
    k0_pay8 g (k0_pay4 x) (k0_pay5 y) (k0_pay6 x) (k0_pay7 x) (Scalar.ofBits .f32 0x44000000#32) (ix2 0 l)
      = g (ix2 0 l) + slabGamma x y l := by
  unfold slabGamma normal rowVar rowMean
  pointwise [k0_pay8, k0_pay4, k0_pay5, k0_pay6, k0_pay7]

set_option maxRecDepth 16384 in
/-- the second slab's likewise, -/
theorem second_gamma (g : FVec Ideal S1x512 .f32) (x y : Vec Ideal S1x128x512 .f32) (l : Fin 512) :
    k0_pay13 g (k0_pay10 x) (k0_pay11 y) (k0_pay12 x) (Scalar.ofBits .f32 0x44000000#32) (ix2 0 l)
      = g (ix2 0 l) + slabGamma x y l := by
  unfold slabGamma normal rowVar rowMean
  pointwise [k0_pay13, k0_pay10, k0_pay11, k0_pay12]

set_option maxRecDepth 16384 in
/-- the third slab's likewise, -/
theorem third_gamma (g : FVec Ideal S1x512 .f32) (x y : Vec Ideal S1x128x512 .f32) (l : Fin 512) :
    k0_pay16 g x y (ix2 0 l) = g (ix2 0 l) + slabGamma x y l := by
  unfold slabGamma normal rowVar rowMean
  pointwise [k0_pay16, k0_pay15]

set_option maxRecDepth 16384 in
/-- and the last slab's, whose result is the upper of the two rows. -/
theorem last_gamma (g b : FVec Ideal S1x512 .f32) (x y : Vec Ideal S1x128x512 .f32) (l : Fin 512) :
    k0_pay18 g b x y (ix2 0 l) = g (ix2 0 l) + slabGamma x y l := by
  unfold slabGamma normal rowVar rowMean
  pointwise [k0_pay18]

/-- The first slab's step adds the slab's entries, -/
theorem first_beta (b : FVec Ideal S1x512 .f32) (y : Vec Ideal S1x128x512 .f32) (l : Fin 512) :
    k0_pay9 b (k0_pay5 y) (ix2 0 l) = b (ix2 0 l) + slabBeta y l := by
  unfold slabBeta
  pointwise [k0_pay9, k0_pay5]

/-- the second slab's likewise, -/
theorem second_beta (b : FVec Ideal S1x512 .f32) (y : Vec Ideal S1x128x512 .f32) (l : Fin 512) :
    k0_pay14 b (k0_pay11 y) (ix2 0 l) = b (ix2 0 l) + slabBeta y l := by
  unfold slabBeta
  pointwise [k0_pay14, k0_pay11]

/-- the third slab's likewise, -/
theorem third_beta (b : FVec Ideal S1x512 .f32) (y : Vec Ideal S1x128x512 .f32) (l : Fin 512) :
    k0_pay17 b y (ix2 0 l) = b (ix2 0 l) + slabBeta y l := by
  unfold slabBeta
  pointwise [k0_pay17, k0_pay15]

/-- and the last slab's, whose result is the lower of the two rows. -/
theorem last_beta (g b : FVec Ideal S1x512 .f32) (x y : Vec Ideal S1x128x512 .f32) (l : Fin 512) :
    k0_pay18 g b x y (ix2 1 l) = b (ix2 0 l) + slabBeta y l := by
  unfold slabBeta
  pointwise [k0_pay18]

/-- The first running sum starts from zero, -/
theorem start_gamma (l : Fin 512) : (k0_pay2 : FVec Ideal S1x512 .f32) (ix2 0 l) = 0 := by
  pointwise [k0_pay2]

/-- and so does the second. -/
theorem start_beta (l : Fin 512) : (k0_pay3 : FVec Ideal S1x512 .f32) (ix2 0 l) = 0 := by
  pointwise [k0_pay3]

/-! ## All rows -/

/-- What row `x`, with its partner row `y`, adds to column `l` of the result's row `q`. -/
def share (q : Fin 2) (x y : Fin 512 → EReal) (l : Fin 512) : EReal := if q = 0 then y l * normal x l else y l

/-- A sum over `k` blocks of `n` is the sum over all `k n`, -/
theorem sum_blocks {M : Type} [AddCommMonoid M] (k n : ℕ) (f : Fin (k * n) → M) :
    ∑ b : Fin k, ∑ p : Fin n, f (finProdFinEquiv (b, p)) = ∑ r, f r := by
  rw [← finProdFinEquiv.sum_comp f, Fintype.sum_prod_type]

/-- so four sums over 128 rows make one over 512. -/
theorem sum_four {M : Type} [AddCommMonoid M] (f : Fin 512 → M) :
    (((∑ p : Fin 128, f ⟨0 + p, by omega⟩) + ∑ p : Fin 128, f ⟨128 + p, by omega⟩) + ∑ p : Fin 128, f ⟨256 + p, by omega⟩)
      + ∑ p : Fin 128, f ⟨384 + p, by omega⟩ = ∑ r, f r := by
  rw [← sum_blocks 4 128 f, Fin.sum_univ_four]
  have h (n : ℕ) (b : Fin 4) (hb : (b : ℕ) * 128 = n) (hn : ∀ p : Fin 128, n + (p : ℕ) < 512) :
      ∑ p : Fin 128, f ⟨n + p, hn p⟩ = ∑ p : Fin 128, f (finProdFinEquiv (b, p)) :=
    Finset.sum_congr rfl fun p _ => congrArg f (Fin.ext (show n + (p : ℕ) = p + 128 * b by omega))
  rw [h 0 0 rfl, h 128 1 rfl, h 256 2 rfl, h 384 3 rfl]

/-- Row `p` of the slab that starts at row `n` is row `n + p` of the matrix. -/
theorem slab_row (f : FVec Ideal S512x512 .f32) (n : ℕ) (h : n + 128 ≤ 512) (p : Fin 128) (k : Fin 512) :
    slab f n h (ix3 0 p k) = f (ix2 ⟨n + p, by omega⟩ k) := rfl

/-- A device's partial result: at row `q`, column `l`, the sum over its 512 rows of what each adds there. -/
theorem partialSums_apply (x y : FVec Ideal S512x512 .f32) (q : Fin 2) (l : Fin 512) :
    partialSums x y (ix2 q l) = ∑ r : Fin 512, share q (fun k => x (ix2 r k)) (fun k => y (ix2 r k)) l := by
  rw [← sum_four]
  fin_cases q
  · refine (last_gamma ..).trans ?_
    rw [third_gamma, second_gamma, first_gamma, start_gamma, zero_add]
    rfl
  · refine (last_beta ..).trans ?_
    rw [third_beta, second_beta, first_beta, start_beta, zero_add]
    rfl

end Cert.KernelIdeal.Exchange

end
-- ==== Proof.Reference.lean ====
/-
  What the reference's result is over the extended reals: at row `q`, column `l`, the sum over all 1024 rows of what
  each adds there, in the words in which a device's partial result is described.

  The reference spells three things otherwise. It divides the squared deviations by `512 - 0`, guarded by a comparison
  with zero; it takes the reciprocal of the root by a quotient, where the kernel has `rsqrt`; and it sums from an explicit
  zero. The quotient and `rsqrt` differ on negative numbers only, and a variance plus a positive constant is positive, on
  infinite arguments too.
-/
module

public import proofs.«01_k».proof.Proof.RowSums
public import proofs.«01_k».proof.Proof.Gen.ReferenceIdeal.Run

@[expose] public section

noncomputable section

namespace Cert.ReferenceIdeal.Sums

open Cert.ReferenceIdeal Cert.ReferenceIdeal.Gen
open Idealize.ShloMosaic Idealize.SL.Sem
open Cert.KernelIdeal.Exchange (rowMean rowVar normal share)

/-- A number's square is not negative, an infinite number's included. -/
theorem square_nonneg (a : EReal) : 0 ≤ a * a := by
  rcases le_total 0 a with h | h
  · exact mul_nonneg h h
  · rw [← neg_mul_neg]
    have h' : (0 : EReal) ≤ -a := by rwa [EReal.le_neg, neg_zero]
    exact mul_nonneg h' h'

/-- The row length, as the programs spell it, is 512. -/
theorem width_eq : Ideal.ofBits .f32 0x44000000#32 = ((512 : ℝ) : EReal) := by
  simp [Ideal.ofBits, Ideal.ieee, -EReal.coe_mul]; norm_num

/-- The constant added to a variance is positive. -/
theorem eps_pos : 0 < Ideal.ofBits .f32 0x3727C5AC#32 := by
  simp [Ideal.ofBits, Ideal.ieee, -EReal.coe_mul]

/-- A row's variance is not negative. -/
theorem rowVar_nonneg (r : Fin 512 → EReal) : 0 ≤ rowVar r := by
  unfold rowVar
  rw [width_eq, Ideal.div_coe (by norm_num)]
  refine mul_nonneg (Finset.sum_nonneg fun k _ => square_nonneg _) ?_
  exact_mod_cast (by norm_num : (0 : ℝ) ≤ 1 / 512)

/-- Of a positive number, the reciprocal of the root as a quotient is `rsqrt`. -/
theorem one_div_sqrt {v : EReal} (h : 0 < v) : Ideal.div 1 (Ideal.sqrt v) = Ideal.rsqrt v := by
  induction v using EReal.rec with
  | bot => exact absurd h (by simp)
  | top => rw [Ideal.sqrt_top, Ideal.rsqrt_top]; simp [Ideal.div]
  | coe r =>
    have hr : 0 < r := by exact_mod_cast h
    rw [Ideal.sqrt_coe, Ideal.rsqrt_coe, if_neg hr.not_gt, if_neg hr.not_gt, if_neg hr.ne',
      Ideal.div_coe (Real.sqrt_pos.mpr hr).ne', one_mul, one_div]

/-! ## The reference's arrays, each from the ones before it -/

/-- The rows' sums over the row length `n`: a column of means where the matrix is the argument. -/
def overRow (x : FVec Ideal S1024x512 .f32) (n : FVec Ideal S_ .f32) : FVec Ideal S1024x1 .f32 :=
  Host.divf (broadcastInDim S1024x1 ![0] bcast_S1024_S1024x1_0
      (Host.reduceAdd x (constant S_ .f32 0x00000000#32) reducesTo_S1024x512_S1024_d1 h_S_))
    (broadcastInDim S1024x1 ![] bcast_S_S1024x1 n)

/-- The argument less its rows' means. -/
def centred (x : FVec Ideal S1024x512 .f32) : FVec Ideal S1024x512 .f32 :=
  subf x (broadcastInDim S1024x512 ![0, 1] bcast_S1024x1_S1024x512_0_1 (overRow x (constant S_ .f32 0x44000000#32)))

/-- The divisor of the squared deviations: the row length less zero degrees of freedom. -/
def freedom : FVec Ideal S_ .f32 := subf (constant S_ .f32 0x44000000#32) (sitofp .f32 (constantI S_ 32 0#32))

/-- The column of variances, guarded against a divisor that is not positive. -/
def variances (x : FVec Ideal S1024x512 .f32) : FVec Ideal S1024x1 .f32 :=
  select (broadcastInDim S1024x1 ![] bcast_S_S1024x1 (cmpf .ogt freedom (constant S_ .f32 0x00000000#32)))
    (overRow (mulf (centred x) (centred x)) freedom)
    (broadcastInDim S1024x1 ![] bcast_S_S1024x1 (id (constant S_ .f32 0x7FC00000#32)))

/-- The column of reciprocal standard deviations. -/
def scales (x : FVec Ideal S1024x512 .f32) : FVec Ideal S1024x1 .f32 :=
  Host.divf (broadcastInDim S1024x1 ![] bcast_S_S1024x1 (constant S_ .f32 0x3F800000#32))
    (Host.sqrt (addf (variances x) (broadcastInDim S1024x1 ![] bcast_S_S1024x1 (constant S_ .f32 0x3727C5AC#32))))

/-- The argument normalised, row by row. -/
def normalised (x : FVec Ideal S1024x512 .f32) : FVec Ideal S1024x512 .f32 :=
  mulf (centred x) (broadcastInDim S1024x512 ![0, 1] bcast_S1024x1_S1024x512_0_1 (scales x))

/-- A matrix's column sums, as one row. -/
def columnSums (y : FVec Ideal S1024x512 .f32) : FVec Ideal S1x512 .f32 :=
  broadcastInDim S1x512 ![1] bcast_S512_S1x512_1
    (Host.reduceAdd y (constant S_ .f32 0x00000000#32) reducesTo_S1024x512_S512_d0 h_S_)

/-- The reference's result: the two rows of sums, one above the other. -/
def whole (x y : FVec Ideal S1024x512 .f32) : FVec Ideal S2x512 .f32 :=
  concatenate S2x512 0 [⟨S1x512, columnSums (mulf y (normalised x))⟩, ⟨S1x512, columnSums y⟩]
    concatenates_S1x512_S1x512_S2x512_d0

/-! ## The same arrays at an index -/

/-- A row's sum over the length. -/
theorem overRow_apply (x : FVec Ideal S1024x512 .f32) (n : FVec Ideal S_ .f32) (r : Fin 1024) :
    overRow x n (ix2 r 0) = Ideal.div (∑ k : Fin 512, x (ix2 r k)) (n ix0) := by
  pointwise [overRow]

/-- A row less its mean. -/
theorem centred_apply (x : FVec Ideal S1024x512 .f32) (r : Fin 1024) (l : Fin 512) :
    centred x (ix2 r l) = x (ix2 r l) - rowMean (fun k => x (ix2 r k)) := by
  unfold rowMean
  pointwise [centred, overRow]

/-- The divisor is the row length, -/
theorem freedom_apply : freedom ix0 = Ideal.ofBits .f32 0x44000000#32 := by
  pointwise [freedom]
  rw [show (FloatOps.sitofp FTy.f32 0#32 : Ideal .f32) = 0 from by simp [FloatOps.sitofp]]
  exact sub_zero _

/-- which is positive. -/
theorem freedom_pos : 0 < freedom ix0 := by
  rw [freedom_apply, width_eq]
  exact_mod_cast (by norm_num : (0 : ℝ) < 512)

/-- The guard lets the quotient through: the column holds the rows' variances. -/
theorem variances_apply (x : FVec Ideal S1024x512 .f32) (r : Fin 1024) :
    variances x (ix2 r 0) = rowVar (fun k => x (ix2 r k)) := by
  have h : variances x (ix2 r 0) = overRow (mulf (centred x) (centred x)) freedom (ix2 r 0) := by
    pointwise [variances]
    exact if_pos freedom_pos
  rw [h, overRow_apply, freedom_apply]
  unfold rowVar
  pointwise
  simp only [centred_apply]

/-- The reciprocal of a row's standard deviation is `rsqrt` of its variance plus the constant. -/
theorem scales_apply (x : FVec Ideal S1024x512 .f32) (r : Fin 1024) :
    scales x (ix2 r 0) = Ideal.rsqrt (rowVar (fun k => x (ix2 r k)) + Ideal.ofBits .f32 0x3727C5AC#32) := by
  rw [← one_div_sqrt (lt_of_lt_of_le eps_pos (le_add_of_nonneg_left (rowVar_nonneg _))), ← variances_apply]
  pointwise [scales]

/-- A row, normalised. -/
theorem normalised_apply (x : FVec Ideal S1024x512 .f32) (r : Fin 1024) (l : Fin 512) :
    normalised x (ix2 r l) = normal (fun k => x (ix2 r k)) l := by
  unfold normal
  rw [← centred_apply, ← scales_apply]
  pointwise [normalised]

/-- A column's sum runs over all rows. -/
theorem columnSums_apply (y : FVec Ideal S1024x512 .f32) (l : Fin 512) :
    columnSums y (ix2 0 l) = ∑ r : Fin 1024, y (ix2 r l) := by
  pointwise [columnSums]

/-- The reference's result at row `q`, column `l`: the sum over all 1024 rows of what each adds there. -/
theorem whole_apply (x y : FVec Ideal S1024x512 .f32) (q : Fin 2) (l : Fin 512) :
    whole x y (ix2 q l) = ∑ r : Fin 1024, share q (fun k => x (ix2 r k)) (fun k => y (ix2 r k)) l := by
  unfold share
  fin_cases q
  · have h : whole x y (ix2 0 l) = columnSums (mulf y (normalised x)) (ix2 0 l) := by
      pointwise [whole]
    refine h.trans ((columnSums_apply _ l).trans (Finset.sum_congr rfl fun r _ => ?_))
    pointwise
    rw [normalised_apply]
  · have h : whole x y (ix2 1 l) = columnSums y (ix2 0 l) := by
      pointwise [whole]
    exact h.trans (columnSums_apply y l)

/-- Every run of the reference ends with that result and its arguments as they were. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = whole (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

end Cert.ReferenceIdeal.Sums

end
-- ==== Proof.Bridge.lean ====
/-
  Every device's result is the reference's.

  Along the mesh's second axis the arguments' 1024 rows are cut into two halves. A device holds one of them and its peer
  the other, so the device's own partial result and the one it was sent add up to the sums over all rows, in whichever
  order the two are added.
-/
module

public import proofs.«01_k».proof.Proof.Launch
public import proofs.«01_k».proof.Proof.Reference
public import Idealize.ShloMosaic.Lib.Layout

@[expose] public section

noncomputable section

namespace Cert.KernelIdeal.Exchange

open Cert.KernelIdeal Cert.KernelIdeal.Gen
open Idealize.ShloMosaic

/-- Which half of the rows a device holds. -/
def half (c : Dev nD) : Fin 2 := ⟨Layout.meshLin [2, 2, 2] c.val [1], Layout.meshLin_lt [2, 2, 2] c.val [1] (by decide)⟩

/-- The peer holds the other one. -/
theorem half_peer (c : Dev nD) : half (peer c) = 1 - half c := by
  revert c; decide

/-- The part of a whole argument that a device holds. -/
abbrev part (c : Dev nD) (v : FVec Ideal ⟨2, ![1024, 512]⟩ .f32) : FVec Ideal S512x512 .f32 :=
  Layout.blockN ⟨2, ![512, 512]⟩ ⟨2, ![1024, 512]⟩ (Layout.meshBlock [2, 2, 2] ![[1], []] c) v

/-- Row `r` of a device's half is row `r` of that half of the whole. -/
theorem part_apply (c : Dev nD) (v : FVec Ideal ⟨2, ![1024, 512]⟩ .f32) (r k : Fin 512) :
    part c v (ix2 r k) = v (ix2 (finProdFinEquiv (half c, r)) k) := by
  refine congrArg v (funext fun a => Fin.ext ?_)
  refine (Layout.TilesN.idx_val _ _ _ a).trans ?_
  fin_cases a
  · show (half c : ℕ) * 512 + (r : ℕ) = r + 512 * (half c : ℕ)
    omega
  · show 0 * 512 + (k : ℕ) = k
    omega

/-- The result on a device, at an index: its own partial result and its peer's, added. -/
theorem result_apply (m : (ℓ : Loc nD τ sig) → Buf (Elt Ideal) ℓ) (c : Dev nD) (q : Fin 2) (l : Fin 512) :
    (result m c : FVec Ideal S2x512 .f32) (ix2 q l)
      = (partialSums (m ((c.tc : Thread nD τ).loc main_arg0)) (m ((c.tc : Thread nD τ).loc main_arg1)) : FVec Ideal S2x512 .f32) (ix2 q l)
        + (partialSums (m (((peer c).tc : Thread nD τ).loc main_arg0)) (m (((peer c).tc : Thread nD τ).loc main_arg1)) : FVec Ideal S2x512 .f32) (ix2 q l) := by
  show k0_pay1 (mine m c) (mine m (peer c)) (ix3 0 q l) = _
  unfold mine
  pointwise [k0_pay1, k0_pay19]

/-- Where every device holds its half of `x` and of `y`, every device's result is the reference's of `x` and `y`. -/
theorem result_eq_whole (m : (ℓ : Loc nD τ sig) → Buf (Elt Ideal) ℓ) (x y : FVec Ideal ⟨2, ![1024, 512]⟩ .f32)
    (hx : ∀ c : Dev nD, m ((c.tc : Thread nD τ).loc main_arg0) = part c x)
    (hy : ∀ c : Dev nD, m ((c.tc : Thread nD τ).loc main_arg1) = part c y) (c : Dev nD) :
    (result m c : FVec Ideal S2x512 .f32) = Cert.ReferenceIdeal.Sums.whole x y := by
  funext i
  obtain ⟨q, l, rfl⟩ : ∃ (q : Fin 2) (l : Fin 512), i = ix2 q l := ⟨i 0, i 1, eq_ix2 i⟩
  rw [result_apply, Cert.ReferenceIdeal.Sums.whole_apply, hx, hy, hx, hy, partialSums_apply, partialSums_apply]
  simp only [part_apply, half_peer]
  rw [← sum_blocks 2 512, Fin.sum_univ_two]
  generalize half c = b
  fin_cases b
  · rfl
  · exact add_comm _ _

end Cert.KernelIdeal.Exchange

end
-- ==== Proof.lean ====
/-
  The claims about the layer norm backward reduction on a 2 x 2 x 2 mesh, proved.

  The run of the kernel (Proof/Launch.lean) is stated once, over any float values; both frames of the kernel are that run
  with the result forgotten. The reference's run and result are in Proof/Reference.lean, the equation between the two
  results in Proof/Bridge.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import proofs.«01_k».proof.Proof.Bridge
public import Idealize.ShloMosaic.Adequacy
public import Idealize.ShloMosaic.Init
public import Idealize.ShloMosaic.Lib.Quiescent

@[expose] public section

noncomputable section

namespace Cert.Proof

open Idealize.ShloMosaic Idealize.SL.Sem
open Cert.KernelIdeal.Exchange (run_main result_eq_whole)

/-- The idealized kernel terminates without fault, leaves its arguments as they were and every counter at zero. -/
theorem frame_kernelIdeal : Cert.quiescent_KernelIdeal := fun m ρ _ =>
  (θ_run Cert.KernelIdeal.defs _ _).mono (fun _ h => ⟨fun c => ⟨(h.1 c).1.1, (h.1 c).1.2.1, (h.1 c).1.2.2.1⟩, h.2⟩)
    (run_main (F := Ideal) m ρ)

/-- So does the kernel: its text is the same, read over bit patterns. -/
theorem frame_kernel : Cert.quiescent_Kernel := fun m ρ _ =>
  (θ_run Cert.KernelIdeal.defs _ _).mono (fun _ h => ⟨fun c => ⟨(h.1 c).1.1, (h.1 c).1.2.1, (h.1 c).1.2.2.1⟩, h.2⟩)
    (run_main (F := Bits) m ρ)

/-- So does the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Sums.run_whole m ρ)

/-- Over the extended reals every device's result is the reference's result on the whole arrays. -/
theorem algebraic : Cert.algebraic_KernelIdeal_ReferenceIdeal := fun m ρ m' ρ' _ hm =>
  ⟨Cert.ReferenceIdeal.Sums.whole _ _,
    (θ_run Cert.KernelIdeal.defs _ _).mono
      (fun _ h c => ⟨(h.1 c).1.2.2.2.trans (result_eq_whole m _ _ (fun c => (hm c).1) (fun c => (hm c).2.1) c),
        (h.1 c).1.1, (h.1 c).1.2.1, (h.1 c).1.2.2.1⟩)
      (run_main (F := Ideal) m ρ),
    (θ_run Cert.ReferenceIdeal.defs _ _).mono (fun _ h => h 0) (Cert.ReferenceIdeal.Sums.run_whole m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
